-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S2x256 : Shape := ⟨2, ![2, 256]⟩
abbrev S16x2x256 : Shape := ⟨3, ![16, 2, 256]⟩
abbrev S_ : Shape := ⟨0, ![]⟩
abbrev S16 : Shape := ⟨1, ![16]⟩
abbrev S256 : Shape := ⟨1, ![256]⟩
abbrev S1x256 : Shape := ⟨2, ![1, 256]⟩
abbrev S1x1x256 : Shape := ⟨3, ![1, 1, 256]⟩
abbrev S1 : Shape := ⟨1, ![1]⟩
abbrev S1x2x256 : Shape := ⟨3, ![1, 2, 256]⟩
abbrev S16x1x256 : Shape := ⟨3, ![16, 1, 256]⟩
abbrev S16x256 : Shape := ⟨2, ![16, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S2x256, .f32⟩
  | .local _ .vmem, ⟨0, _⟩ => ⟨S2x256, .f32⟩
  | .local _ .vmem, ⟨1, _⟩ => ⟨S256x256, .f32⟩
  | .local _ .vmem, ⟨2, _⟩ => ⟨S2x256, .f32⟩
  | .local _ .vmem, ⟨3, _⟩ => ⟨S16x2x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_148 : BitVec 32 := 1#32
  let v224 : BitVec 32 := Scalar.addi v2 c1_i32_148
  let c16_i32_149 : BitVec 32 := 16#32
  let c0_i32_150 : BitVec 32 := 0#32
  let v225 : BitVec 1 := Scalar.cmpi .eq c16_i32_149 c0_i32_150
  let c1_i32_151 : BitVec 32 := 1#32
  let v226 : BitVec 32 := Scalar.select v225 c1_i32_151 c16_i32_149
  let v227 : BitVec 32 := Scalar.remsi v224 v226
  let c0_i32_153 : BitVec 32 := 0#32
  let v229 : BitVec 1 := Scalar.cmpi .slt v227 c0_i32_153
  let c0_i32_154 : BitVec 32 := 0#32
  let v230 : BitVec 1 := Scalar.cmpi .slt v226 c0_i32_154
  let v231 : BitVec 1 := Scalar.xori v229 v230
  let c0_i32_152 : BitVec 32 := 0#32
  let v228 : BitVec 1 := Scalar.cmpi .ne v227 c0_i32_152
  let v232 : BitVec 1 := Scalar.andi v231 v228
  let v233 : BitVec 32 := Scalar.addi v227 v226
  let v234 : BitVec 32 := Scalar.select v232 v233 v227
  let c1_i32_158 : BitVec 32 := 1#32
  let v235 : BitVec 32 := Scalar.muli v234 c1_i32_158
  let v236 : BitVec 32 := Scalar.addi c0_i32_159 v235
  v236.toNat
def k0_dev17 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_162 : BitVec 32 := 2#32
  let v243 : BitVec 32 := Scalar.addi v2 c2_i32_162
  let c16_i32_163 : BitVec 32 := 16#32
  let c0_i32_164 : BitVec 32 := 0#32
  let v244 : BitVec 1 := Scalar.cmpi .eq c16_i32_163 c0_i32_164
  let c1_i32_165 : BitVec 32 := 1#32
  let v245 : BitVec 32 := Scalar.select v244 c1_i32_165 c16_i32_163
  let v246 : BitVec 32 := Scalar.remsi v243 v245
  let c0_i32_167 : BitVec 32 := 0#32
  let v248 : BitVec 1 := Scalar.cmpi .slt v246 c0_i32_167
  let c0_i32_168 : BitVec 32 := 0#32
  let v249 : BitVec 1 := Scalar.cmpi .slt v245 c0_i32_168
  let v250 : BitVec 1 := Scalar.xori v248 v249
  let c0_i32_166 : BitVec 32 := 0#32
  let v247 : BitVec 1 := Scalar.cmpi .ne v246 c0_i32_166
  let v251 : BitVec 1 := Scalar.andi v250 v247
  let v252 : BitVec 32 := Scalar.addi v246 v245
  let v253 : BitVec 32 := Scalar.select v251 v252 v246
  let c1_i32_172 : BitVec 32 := 1#32
  let v254 : BitVec 32 := Scalar.muli v253 c1_i32_172
  let v255 : BitVec 32 := Scalar.addi c0_i32_173 v254
  v255.toNat
def k0_dev18 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_176 : BitVec 32 := 3#32
  let v262 : BitVec 32 := Scalar.addi v2 c3_i32_176
  let c16_i32_177 : BitVec 32 := 16#32
  let c0_i32_178 : BitVec 32 := 0#32
  let v263 : BitVec 1 := Scalar.cmpi .eq c16_i32_177 c0_i32_178
  let c1_i32_179 : BitVec 32 := 1#32
  let v264 : BitVec 32 := Scalar.select v263 c1_i32_179 c16_i32_177
  let v265 : BitVec 32 := Scalar.remsi v262 v264
  let c0_i32_181 : BitVec 32 := 0#32
  let v267 : BitVec 1 := Scalar.cmpi .slt v265 c0_i32_181
  let c0_i32_182 : BitVec 32 := 0#32
  let v268 : BitVec 1 := Scalar.cmpi .slt v264 c0_i32_182
  let v269 : BitVec 1 := Scalar.xori v267 v268
  let c0_i32_180 : BitVec 32 := 0#32
  let v266 : BitVec 1 := Scalar.cmpi .ne v265 c0_i32_180
  let v270 : BitVec 1 := Scalar.andi v269 v266
  let v271 : BitVec 32 := Scalar.addi v265 v264
  let v272 : BitVec 32 := Scalar.select v270 v271 v265
  let c1_i32_186 : BitVec 32 := 1#32
  let v273 : BitVec 32 := Scalar.muli v272 c1_i32_186
  let v274 : BitVec 32 := Scalar.addi c0_i32_187 v273
  v274.toNat
def k0_dev19 (d0 : Dev nD) : Nat :=
  let c0_i32_201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_190 : BitVec 32 := 4#32
  let v281 : BitVec 32 := Scalar.addi v2 c4_i32_190
  let c16_i32_191 : BitVec 32 := 16#32
  let c0_i32_192 : BitVec 32 := 0#32
  let v282 : BitVec 1 := Scalar.cmpi .eq c16_i32_191 c0_i32_192
  let c1_i32_193 : BitVec 32 := 1#32
  let v283 : BitVec 32 := Scalar.select v282 c1_i32_193 c16_i32_191
  let v284 : BitVec 32 := Scalar.remsi v281 v283
  let c0_i32_195 : BitVec 32 := 0#32
  let v286 : BitVec 1 := Scalar.cmpi .slt v284 c0_i32_195
  let c0_i32_196 : BitVec 32 := 0#32
  let v287 : BitVec 1 := Scalar.cmpi .slt v283 c0_i32_196
  let v288 : BitVec 1 := Scalar.xori v286 v287
  let c0_i32_194 : BitVec 32 := 0#32
  let v285 : BitVec 1 := Scalar.cmpi .ne v284 c0_i32_194
  let v289 : BitVec 1 := Scalar.andi v288 v285
  let v290 : BitVec 32 := Scalar.addi v284 v283
  let v291 : BitVec 32 := Scalar.select v289 v290 v284
  let c1_i32_200 : BitVec 32 := 1#32
  let v292 : BitVec 32 := Scalar.muli v291 c1_i32_200
  let v293 : BitVec 32 := Scalar.addi c0_i32_201 v292
  v293.toNat
def k0_dev20 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_204 : BitVec 32 := 5#32
  let v300 : BitVec 32 := Scalar.addi v2 c5_i32_204
  let c16_i32_205 : BitVec 32 := 16#32
  let c0_i32_206 : BitVec 32 := 0#32
  let v301 : BitVec 1 := Scalar.cmpi .eq c16_i32_205 c0_i32_206
  let c1_i32_207 : BitVec 32 := 1#32
  let v302 : BitVec 32 := Scalar.select v301 c1_i32_207 c16_i32_205
  let v303 : BitVec 32 := Scalar.remsi v300 v302
  let c0_i32_209 : BitVec 32 := 0#32
  let v305 : BitVec 1 := Scalar.cmpi .slt v303 c0_i32_209
  let c0_i32_210 : BitVec 32 := 0#32
  let v306 : BitVec 1 := Scalar.cmpi .slt v302 c0_i32_210
  let v307 : BitVec 1 := Scalar.xori v305 v306
  let c0_i32_208 : BitVec 32 := 0#32
  let v304 : BitVec 1 := Scalar.cmpi .ne v303 c0_i32_208
  let v308 : BitVec 1 := Scalar.andi v307 v304
  let v309 : BitVec 32 := Scalar.addi v303 v302
  let v310 : BitVec 32 := Scalar.select v308 v309 v303
  let c1_i32_214 : BitVec 32 := 1#32
  let v311 : BitVec 32 := Scalar.muli v310 c1_i32_214
  let v312 : BitVec 32 := Scalar.addi c0_i32_215 v311
  v312.toNat
def k0_dev21 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_218 : BitVec 32 := 6#32
  let v319 : BitVec 32 := Scalar.addi v2 c6_i32_218
  let c16_i32_219 : BitVec 32 := 16#32
  let c0_i32_220 : BitVec 32 := 0#32
  let v320 : BitVec 1 := Scalar.cmpi .eq c16_i32_219 c0_i32_220
  let c1_i32_221 : BitVec 32 := 1#32
  let v321 : BitVec 32 := Scalar.select v320 c1_i32_221 c16_i32_219
  let v322 : BitVec 32 := Scalar.remsi v319 v321
  let c0_i32_223 : BitVec 32 := 0#32
  let v324 : BitVec 1 := Scalar.cmpi .slt v322 c0_i32_223
  let c0_i32_224 : BitVec 32 := 0#32
  let v325 : BitVec 1 := Scalar.cmpi .slt v321 c0_i32_224
  let v326 : BitVec 1 := Scalar.xori v324 v325
  let c0_i32_222 : BitVec 32 := 0#32
  let v323 : BitVec 1 := Scalar.cmpi .ne v322 c0_i32_222
  let v327 : BitVec 1 := Scalar.andi v326 v323
  let v328 : BitVec 32 := Scalar.addi v322 v321
  let v329 : BitVec 32 := Scalar.select v327 v328 v322
  let c1_i32_228 : BitVec 32 := 1#32
  let v330 : BitVec 32 := Scalar.muli v329 c1_i32_228
  let v331 : BitVec 32 := Scalar.addi c0_i32_229 v330
  v331.toNat
def k0_dev22 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_232 : BitVec 32 := 7#32
  let v338 : BitVec 32 := Scalar.addi v2 c7_i32_232
  let c16_i32_233 : BitVec 32 := 16#32
  let c0_i32_234 : BitVec 32 := 0#32
  let v339 : BitVec 1 := Scalar.cmpi .eq c16_i32_233 c0_i32_234
  let c1_i32_235 : BitVec 32 := 1#32
  let v340 : BitVec 32 := Scalar.select v339 c1_i32_235 c16_i32_233
  let v341 : BitVec 32 := Scalar.remsi v338 v340
  let c0_i32_237 : BitVec 32 := 0#32
  let v343 : BitVec 1 := Scalar.cmpi .slt v341 c0_i32_237
  let c0_i32_238 : BitVec 32 := 0#32
  let v344 : BitVec 1 := Scalar.cmpi .slt v340 c0_i32_238
  let v345 : BitVec 1 := Scalar.xori v343 v344
  let c0_i32_236 : BitVec 32 := 0#32
  let v342 : BitVec 1 := Scalar.cmpi .ne v341 c0_i32_236
  let v346 : BitVec 1 := Scalar.andi v345 v342
  let v347 : BitVec 32 := Scalar.addi v341 v340
  let v348 : BitVec 32 := Scalar.select v346 v347 v341
  let c1_i32_242 : BitVec 32 := 1#32
  let v349 : BitVec 32 := Scalar.muli v348 c1_i32_242
  let v350 : BitVec 32 := Scalar.addi c0_i32_243 v349
  v350.toNat
def k0_dev23 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_246 : BitVec 32 := 8#32
  let v357 : BitVec 32 := Scalar.addi v2 c8_i32_246
  let c16_i32_247 : BitVec 32 := 16#32
  let c0_i32_248 : BitVec 32 := 0#32
  let v358 : BitVec 1 := Scalar.cmpi .eq c16_i32_247 c0_i32_248
  let c1_i32_249 : BitVec 32 := 1#32
  let v359 : BitVec 32 := Scalar.select v358 c1_i32_249 c16_i32_247
  let v360 : BitVec 32 := Scalar.remsi v357 v359
  let c0_i32_251 : BitVec 32 := 0#32
  let v362 : BitVec 1 := Scalar.cmpi .slt v360 c0_i32_251
  let c0_i32_252 : BitVec 32 := 0#32
  let v363 : BitVec 1 := Scalar.cmpi .slt v359 c0_i32_252
  let v364 : BitVec 1 := Scalar.xori v362 v363
  let c0_i32_250 : BitVec 32 := 0#32
  let v361 : BitVec 1 := Scalar.cmpi .ne v360 c0_i32_250
  let v365 : BitVec 1 := Scalar.andi v364 v361
  let v366 : BitVec 32 := Scalar.addi v360 v359
  let v367 : BitVec 32 := Scalar.select v365 v366 v360
  let c1_i32_256 : BitVec 32 := 1#32
  let v368 : BitVec 32 := Scalar.muli v367 c1_i32_256
  let v369 : BitVec 32 := Scalar.addi c0_i32_257 v368
  v369.toNat
def k0_dev24 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_260 : BitVec 32 := 9#32
  let v376 : BitVec 32 := Scalar.addi v2 c9_i32_260
  let c16_i32_261 : BitVec 32 := 16#32
  let c0_i32_262 : BitVec 32 := 0#32
  let v377 : BitVec 1 := Scalar.cmpi .eq c16_i32_261 c0_i32_262
  let c1_i32_263 : BitVec 32 := 1#32
  let v378 : BitVec 32 := Scalar.select v377 c1_i32_263 c16_i32_261
  let v379 : BitVec 32 := Scalar.remsi v376 v378
  let c0_i32_265 : BitVec 32 := 0#32
  let v381 : BitVec 1 := Scalar.cmpi .slt v379 c0_i32_265
  let c0_i32_266 : BitVec 32 := 0#32
  let v382 : BitVec 1 := Scalar.cmpi .slt v378 c0_i32_266
  let v383 : BitVec 1 := Scalar.xori v381 v382
  let c0_i32_264 : BitVec 32 := 0#32
  let v380 : BitVec 1 := Scalar.cmpi .ne v379 c0_i32_264
  let v384 : BitVec 1 := Scalar.andi v383 v380
  let v385 : BitVec 32 := Scalar.addi v379 v378
  let v386 : BitVec 32 := Scalar.select v384 v385 v379
  let c1_i32_270 : BitVec 32 := 1#32
  let v387 : BitVec 32 := Scalar.muli v386 c1_i32_270
  let v388 : BitVec 32 := Scalar.addi c0_i32_271 v387
  v388.toNat
def k0_dev25 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_274 : BitVec 32 := 10#32
  let v395 : BitVec 32 := Scalar.addi v2 c10_i32_274
  let c16_i32_275 : BitVec 32 := 16#32
  let c0_i32_276 : BitVec 32 := 0#32
  let v396 : BitVec 1 := Scalar.cmpi .eq c16_i32_275 c0_i32_276
  let c1_i32_277 : BitVec 32 := 1#32
  let v397 : BitVec 32 := Scalar.select v396 c1_i32_277 c16_i32_275
  let v398 : BitVec 32 := Scalar.remsi v395 v397
  let c0_i32_279 : BitVec 32 := 0#32
  let v400 : BitVec 1 := Scalar.cmpi .slt v398 c0_i32_279
  let c0_i32_280 : BitVec 32 := 0#32
  let v401 : BitVec 1 := Scalar.cmpi .slt v397 c0_i32_280
  let v402 : BitVec 1 := Scalar.xori v400 v401
  let c0_i32_278 : BitVec 32 := 0#32
  let v399 : BitVec 1 := Scalar.cmpi .ne v398 c0_i32_278
  let v403 : BitVec 1 := Scalar.andi v402 v399
  let v404 : BitVec 32 := Scalar.addi v398 v397
  let v405 : BitVec 32 := Scalar.select v403 v404 v398
  let c1_i32_284 : BitVec 32 := 1#32
  let v406 : BitVec 32 := Scalar.muli v405 c1_i32_284
  let v407 : BitVec 32 := Scalar.addi c0_i32_285 v406
  v407.toNat
def k0_dev26 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_288 : BitVec 32 := 11#32
  let v414 : BitVec 32 := Scalar.addi v2 c11_i32_288
  let c16_i32_289 : BitVec 32 := 16#32
  let c0_i32_290 : BitVec 32 := 0#32
  let v415 : BitVec 1 := Scalar.cmpi .eq c16_i32_289 c0_i32_290
  let c1_i32_291 : BitVec 32 := 1#32
  let v416 : BitVec 32 := Scalar.select v415 c1_i32_291 c16_i32_289
  let v417 : BitVec 32 := Scalar.remsi v414 v416
  let c0_i32_293 : BitVec 32 := 0#32
  let v419 : BitVec 1 := Scalar.cmpi .slt v417 c0_i32_293
  let c0_i32_294 : BitVec 32 := 0#32
  let v420 : BitVec 1 := Scalar.cmpi .slt v416 c0_i32_294
  let v421 : BitVec 1 := Scalar.xori v419 v420
  let c0_i32_292 : BitVec 32 := 0#32
  let v418 : BitVec 1 := Scalar.cmpi .ne v417 c0_i32_292
  let v422 : BitVec 1 := Scalar.andi v421 v418
  let v423 : BitVec 32 := Scalar.addi v417 v416
  let v424 : BitVec 32 := Scalar.select v422 v423 v417
  let c1_i32_298 : BitVec 32 := 1#32
  let v425 : BitVec 32 := Scalar.muli v424 c1_i32_298
  let v426 : BitVec 32 := Scalar.addi c0_i32_299 v425
  v426.toNat
def k0_dev27 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_302 : BitVec 32 := 12#32
  let v433 : BitVec 32 := Scalar.addi v2 c12_i32_302
  let c16_i32_303 : BitVec 32 := 16#32
  let c0_i32_304 : BitVec 32 := 0#32
  let v434 : BitVec 1 := Scalar.cmpi .eq c16_i32_303 c0_i32_304
  let c1_i32_305 : BitVec 32 := 1#32
  let v435 : BitVec 32 := Scalar.select v434 c1_i32_305 c16_i32_303
  let v436 : BitVec 32 := Scalar.remsi v433 v435
  let c0_i32_307 : BitVec 32 := 0#32
  let v438 : BitVec 1 := Scalar.cmpi .slt v436 c0_i32_307
  let c0_i32_308 : BitVec 32 := 0#32
  let v439 : BitVec 1 := Scalar.cmpi .slt v435 c0_i32_308
  let v440 : BitVec 1 := Scalar.xori v438 v439
  let c0_i32_306 : BitVec 32 := 0#32
  let v437 : BitVec 1 := Scalar.cmpi .ne v436 c0_i32_306
  let v441 : BitVec 1 := Scalar.andi v440 v437
  let v442 : BitVec 32 := Scalar.addi v436 v435
  let v443 : BitVec 32 := Scalar.select v441 v442 v436
  let c1_i32_312 : BitVec 32 := 1#32
  let v444 : BitVec 32 := Scalar.muli v443 c1_i32_312
  let v445 : BitVec 32 := Scalar.addi c0_i32_313 v444
  v445.toNat
def k0_dev28 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_316 : BitVec 32 := 13#32
  let v452 : BitVec 32 := Scalar.addi v2 c13_i32_316
  let c16_i32_317 : BitVec 32 := 16#32
  let c0_i32_318 : BitVec 32 := 0#32
  let v453 : BitVec 1 := Scalar.cmpi .eq c16_i32_317 c0_i32_318
  let c1_i32_319 : BitVec 32 := 1#32
  let v454 : BitVec 32 := Scalar.select v453 c1_i32_319 c16_i32_317
  let v455 : BitVec 32 := Scalar.remsi v452 v454
  let c0_i32_321 : BitVec 32 := 0#32
  let v457 : BitVec 1 := Scalar.cmpi .slt v455 c0_i32_321
  let c0_i32_322 : BitVec 32 := 0#32
  let v458 : BitVec 1 := Scalar.cmpi .slt v454 c0_i32_322
  let v459 : BitVec 1 := Scalar.xori v457 v458
  let c0_i32_320 : BitVec 32 := 0#32
  let v456 : BitVec 1 := Scalar.cmpi .ne v455 c0_i32_320
  let v460 : BitVec 1 := Scalar.andi v459 v456
  let v461 : BitVec 32 := Scalar.addi v455 v454
  let v462 : BitVec 32 := Scalar.select v460 v461 v455
  let c1_i32_326 : BitVec 32 := 1#32
  let v463 : BitVec 32 := Scalar.muli v462 c1_i32_326
  let v464 : BitVec 32 := Scalar.addi c0_i32_327 v463
  v464.toNat
def k0_dev29 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_330 : BitVec 32 := 14#32
  let v471 : BitVec 32 := Scalar.addi v2 c14_i32_330
  let c16_i32_331 : BitVec 32 := 16#32
  let c0_i32_332 : BitVec 32 := 0#32
  let v472 : BitVec 1 := Scalar.cmpi .eq c16_i32_331 c0_i32_332
  let c1_i32_333 : BitVec 32 := 1#32
  let v473 : BitVec 32 := Scalar.select v472 c1_i32_333 c16_i32_331
  let v474 : BitVec 32 := Scalar.remsi v471 v473
  let c0_i32_335 : BitVec 32 := 0#32
  let v476 : BitVec 1 := Scalar.cmpi .slt v474 c0_i32_335
  let c0_i32_336 : BitVec 32 := 0#32
  let v477 : BitVec 1 := Scalar.cmpi .slt v473 c0_i32_336
  let v478 : BitVec 1 := Scalar.xori v476 v477
  let c0_i32_334 : BitVec 32 := 0#32
  let v475 : BitVec 1 := Scalar.cmpi .ne v474 c0_i32_334
  let v479 : BitVec 1 := Scalar.andi v478 v475
  let v480 : BitVec 32 := Scalar.addi v474 v473
  let v481 : BitVec 32 := Scalar.select v479 v480 v474
  let c1_i32_340 : BitVec 32 := 1#32
  let v482 : BitVec 32 := Scalar.muli v481 c1_i32_340
  let v483 : BitVec 32 := Scalar.addi c0_i32_341 v482
  v483.toNat
def k0_dev30 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_344 : BitVec 32 := 15#32
  let v490 : BitVec 32 := Scalar.addi v2 c15_i32_344
  let c16_i32_345 : BitVec 32 := 16#32
  let c0_i32_346 : BitVec 32 := 0#32
  let v491 : BitVec 1 := Scalar.cmpi .eq c16_i32_345 c0_i32_346
  let c1_i32_347 : BitVec 32 := 1#32
  let v492 : BitVec 32 := Scalar.select v491 c1_i32_347 c16_i32_345
  let v493 : BitVec 32 := Scalar.remsi v490 v492
  let c0_i32_349 : BitVec 32 := 0#32
  let v495 : BitVec 1 := Scalar.cmpi .slt v493 c0_i32_349
  let c0_i32_350 : BitVec 32 := 0#32
  let v496 : BitVec 1 := Scalar.cmpi .slt v492 c0_i32_350
  let v497 : BitVec 1 := Scalar.xori v495 v496
  let c0_i32_348 : BitVec 32 := 0#32
  let v494 : BitVec 1 := Scalar.cmpi .ne v493 c0_i32_348
  let v498 : BitVec 1 := Scalar.andi v497 v494
  let v499 : BitVec 32 := Scalar.addi v493 v492
  let v500 : BitVec 32 := Scalar.select v498 v499 v493
  let c1_i32_354 : BitVec 32 := 1#32
  let v501 : BitVec 32 := Scalar.muli v500 c1_i32_354
  let v502 : BitVec 32 := Scalar.addi c0_i32_355 v501
  v502.toNat
abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x256 : Shape := ⟨2, ![4096, 256]⟩
abbrev S_ : Shape := ⟨0, ![]⟩
abbrev S256 : Shape := ⟨1, ![256]⟩
abbrev S1x256 : Shape := ⟨2, ![1, 256]⟩
abbrev S2x256 : Shape := ⟨2, ![2, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .i32⟩
  | .hbm, ⟨2, _⟩ => ⟨S_, .f32⟩
  | .hbm, ⟨3, _⟩ => ⟨S_, .i32⟩
  | .hbm, ⟨4, _⟩ => ⟨S256, .f32⟩
  | .hbm, ⟨5, _⟩ => ⟨S256, .i32⟩
  | .hbm, ⟨6, _⟩ => ⟨S256, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S1x256, .f32⟩
  | .hbm, ⟨11, _⟩ => ⟨S2x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Protocol.lean ====
/-
# The exchange's protocol

Sixteen devices each reduce their own block of rows to two rows (a maximum and the row it is met at) and send both to
every other device. Device `c` talks to device `c + e` (`peer c e`) for `e = 1 … 15`: it tells it once that its slot is
free (the runtime's barrier semaphore), and writes slot `e` of its gathering buffer.

This module names the devices, the buffers, the semaphores and the contents, and states the one round of duties
every semaphore has.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.ValueLayout
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]

/-! ## The resource algebra: the pipeline library's copy, and the exchange's with a duty per offset -/

abbrev UX : Type := URounds (GSem nD τ sig) (Fin 16)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-! ## The devices around the mesh -/

/-- The device `e` places after `c`. -/
def peer (c : Dev nD) (e : Fin 16) : Dev nD := ⟨(c.val + e.val) % 16, Nat.mod_lt _ (by decide)⟩
/-- The device `e` places before `c`. -/
def back (c : Dev nD) (e : Fin 16) : Dev nD := ⟨(c.val + (16 - e.val)) % 16, Nat.mod_lt _ (by decide)⟩
/-- The offset that undoes `e`. -/
def opp (e : Fin 16) : Fin 16 := ⟨(16 - e.val) % 16, Nat.mod_lt _ (by decide)⟩

theorem back_peer (c : Dev nD) (e : Fin 16) : back (peer c e) e = c := by
  refine Fin.ext ?_; have hc : c.val < 16 := c.isLt; have := e.isLt; simp only [back, peer]; omega
theorem peer_back (c : Dev nD) (e : Fin 16) : peer (back c e) e = c := by
  refine Fin.ext ?_; have hc : c.val < 16 := c.isLt; have := e.isLt; simp only [back, peer]; omega
theorem peer_opp (c : Dev nD) (e : Fin 16) : peer (peer c e) (opp e) = c := by
  refine Fin.ext ?_; have hc : c.val < 16 := c.isLt; have := e.isLt; simp only [opp, peer]; omega
theorem back_zero (c : Dev nD) : back c 0 = c := by
  refine Fin.ext ?_; have hc : c.val < 16 := c.isLt; simp only [back]; change (c.val + (16 - 0)) % 16 = c.val; omega
theorem opp_opp (e : Fin 16) : opp (opp e) = e := by revert e; decide
theorem opp_ne_zero {e : Fin 16} (h : e ≠ 0) : opp e ≠ 0 := by revert e; decide

/-- Stepping `e` places forward, as a renumbering of the devices. -/
def around (e : Fin 16) : Dev nD ≃ Dev nD := ⟨fun c => peer c e, fun c => back c e, fun c => back_peer c e, fun c => peer_back c e⟩

/-- The offsets from `n` on. -/
def from_ (n : ℕ) : Finset (Fin 16) := Finset.univ.filter fun e => n ≤ e.val

theorem mem_from {n : ℕ} {e : Fin 16} : e ∈ from_ n ↔ n ≤ e.val := by simp [from_]
theorem not_mem_from_succ (n : ℕ) (h : n < 16) : (⟨n, h⟩ : Fin 16) ∉ from_ (n + 1) := by rw [mem_from]; simp
theorem from_eq_insert (n : ℕ) (h : n < 16) : from_ n = insert ⟨n, h⟩ (from_ (n + 1)) := by
  ext e; rw [Finset.mem_insert, mem_from, mem_from, Fin.ext_iff]; simp only; omega
theorem from_one : from_ 1 = Finset.univ.erase 0 := by decide
theorem from_zero : from_ 0 = Finset.univ := by decide
theorem from_end : from_ 16 = ∅ := by decide

/-! ## The buffers and the semaphores -/

abbrev argM : Memref sig .tc .hbm S256x256 .f32 := Memref.whole main_arg0
abbrev outM : Memref sig .tc .vmem S2x256 .f32 := Memref.whole cc0_stg0_0
abbrev xM : Memref sig .tc .vmem S256x256 .f32 := Memref.whole cc0_scratch0
abbrev sM : Memref sig .tc .vmem S2x256 .f32 := Memref.whole cc0_scratch1
abbrev gM : Memref sig .tc .vmem S16x2x256 .f32 := Memref.whole cc0_scratch2

theorem inb_slot (e : Fin 16) : ∀ a, (![e.val, 0, 0] : Fin 3 → Nat) a + S1x2x256.size a ≤ S16x2x256.size a := by revert e; decide
theorem inb_sem (e : Fin 16) : ∀ a, (![e.val] : Fin 1 → Nat) a + S1.size a ≤ S16.size a := by revert e; decide

/-- Slot `e` of the gathering buffer, two rows. -/
abbrev slotM (e : Fin 16) : Memref sig .tc .vmem S2x256 .f32 :=
  (gM.slice (Rect.unit (s := S16x2x256) ![e.val, 0, 0] S1x2x256.size (inb_slot e)) (fun _ => rfl)).squeeze S2x256 squeezes_S1x2x256_S2x256

/-- The runtime's barrier semaphore, the local copy's semaphore, and the send and receive semaphores of offset `e`. -/
abbrev barS : Sem sig := (SemArray.scalar (sig.barrier 0 rfl) : Sems sig S_).sem
abbrev copyS : DmaSem sig := (cc0_scratch3 : DmaSems sig S_).sem
abbrev sendS (e : Fin 16) : DmaSem sig :=
  (((cc0_scratch4 : DmaSems sig S16).slice (Rect.unit (s := S16) ![e.val] S1.size (inb_sem e))).squeeze S_ squeezes_S1_S_).sem
abbrev recvS (e : Fin 16) : DmaSem sig :=
  (((cc0_scratch5 : DmaSems sig S16).slice (Rect.unit (s := S16) ![e.val] S1.size (inb_sem e))).squeeze S_ squeezes_S1_S_).sem

/-- The kernel's own semaphores: the local copy's, then the send and the receive ones. -/
abbrev OwnKey : Type := Unit ⊕ (Fin 16 ⊕ Fin 16)
/-- With the barrier's in front: every semaphore the exchange uses. -/
abbrev Key : Type := Unit ⊕ OwnKey

abbrev kBar : Key := .inl ()
abbrev kCopy : Key := .inr (.inl ())
abbrev kSend (e : Fin 16) : Key := .inr (.inr (.inl e))
abbrev kRecv (e : Fin 16) : Key := .inr (.inr (.inr e))

/-- The semaphores of the kernel's own, by key. -/
abbrev osem : OwnKey → SemLoc sig
  | .inl _ => .dma copyS
  | .inr (.inl e) => .dma (sendS e)
  | .inr (.inr e) => .dma (recvS e)
/-- All of them, by key. -/
abbrev csem : Key → SemLoc sig
  | .inl _ => .reg barS
  | .inr k => osem k

/-- The key of a semaphore: the DMA semaphores are numbered the copy's first, then the send ones, then the receive ones. -/
def keyOf : SemLoc sig → Option Key
  | .reg s => if s = barS then some kBar else none
  | .dma q => if q.val = 0 then none else if q.val = 1 then some kCopy
      else if q.val < 18 then some (kSend ⟨(q.val - 2) % 16, Nat.mod_lt _ (by decide)⟩)
      else some (kRecv ⟨(q.val - 18) % 16, Nat.mod_lt _ (by decide)⟩)

theorem keyOf_csem (k : Key) : keyOf (csem k) = some k := by revert k; decide
theorem csem_injective : Function.Injective csem := fun a b h => Option.some.inj (by rw [← keyOf_csem a, ← keyOf_csem b, h])

abbrev kcell (ck : Dev nD × Key) : GSem nD τ sig := ((ck.1 : Thread nD τ), csem ck.2)
abbrev barCell (c : Dev nD) : GSem nD τ sig := kcell (c, kBar)
abbrev copyCell (c : Dev nD) : GSem nD τ sig := kcell (c, kCopy)
abbrev sendCell (c : Dev nD) (e : Fin 16) : GSem nD τ sig := kcell (c, kSend e)
abbrev recvCell (c : Dev nD) (e : Fin 16) : GSem nD τ sig := kcell (c, kRecv e)

theorem kcell_injective : Function.Injective (kcell : Dev nD × Key → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- What a transfer of two rows credits, and what the local copy does. -/
abbrev N : ℕ := (sM : Memref sig .tc .vmem S2x256 .f32).view.dmaCredit
abbrev NX : ℕ := (xM : Memref sig .tc .vmem S256x256 .f32).view.dmaCredit
theorem N_pos : 0 < N := View.dmaCredit_pos _ (by decide)
theorem NX_pos : 0 < NX := View.dmaCredit_pos _ (by decide)

/-! ## The contents -/

/-- Device `c`'s block of the argument. -/
def xin (c : Dev nD) : Vec F S256x256 .f32 := m ((c : Thread nD τ).loc main_arg0)

/-- Device `c`'s number as the kernel computes it. -/
abbrev wordOf (c : Dev nD) : BitVec 32 := Scalar.remsi (Scalar.divsi (Dev.word c) 1#32) 16#32

/-- The two rows device `c` sends: its columns' maxima, and the rows they are met at. -/
def sent (c : Dev nD) : Vec F S2x256 .f32 := fun i =>
  if (i 0).val = 0 then k0_pay3 (xin m c) (ix2 0 (i 1)) else k0_pay4 (wordOf c) (xin m c) (ix2 0 (i 1))

/-- The gathering buffer once all have arrived: slot `e` holds what the device `e` places before sent. -/
def gathered (c : Dev nD) : Vec F S16x2x256 .f32 := fun i => sent m (back c (i 0)) (ix2 (i 1) (i 2))

/-! ## The buffers held -/

/-- Slot `e` of device `c`'s gathering buffer, held at contents `f`. -/
def slotPts (c : Dev nD) (e : Fin 16) (f : Buf (Elt F) ((c : Thread nD τ).loc cc0_scratch2)) : sProp 𝕄 :=
  (slotM e).view.loc (c : Thread nD τ) ↦[(slotM e).view.set]{fullShare} f
/-- A share of device `c`'s outgoing rows. -/
def sentPts (c : Dev nD) (q : PosShare TreeShare) : sProp 𝕄 :=
  sM.view.loc (c : Thread nD τ) ↦[sM.view.set]{q} (sent m c : Buf (Elt F) ((c : Thread nD τ).loc cc0_scratch1))
/-- The share of them lent to the transfer of offset `e`. -/
abbrev part (e : Fin 16) : PosShare TreeShare := ShareLeaves.leaf 4 fullShare e

instance slotPts_storable (c : Dev nD) (e) (f) : BI.Storable (upEmb : UEmb _ 𝕄) (slotPts (F := F) c e f) := by unfold slotPts; infer_instance
instance sentPts_storable (c : Dev nD) (q) : BI.Storable (upEmb : UEmb _ 𝕄) (sentPts (F := F) m c q) := by unfold sentPts; infer_instance

/-! ## The schedule -/

/-- What the signal with duty `e` hands device `c`: slot `e` of the device `e` places after, whatever it holds. -/
def barPay (c : Dev nD) (e : Fin 16) : sProp 𝕄 := iprop(∃ f, slotPts (peer c e) e f)
/-- What the local copy hands back: the block copied, and the argument. -/
def copyPay (c : Dev nD) : sProp 𝕄 :=
  iprop((xM.view.loc (c : Thread nD τ) ↦[xM.view.set]{fullShare} (xin m c : Buf (Elt F) ((c : Thread nD τ).loc cc0_scratch0)))
    ∗ (argM.view.loc (c : Thread nD τ) ↦[argM.view.set]{fullShare} m ((c : Thread nD τ).loc main_arg0)))

instance barPay_storable (c : Dev nD) (e) : BI.Storable (upEmb : UEmb _ 𝕄) (barPay (F := F) c e) := by unfold barPay; infer_instance
instance copyPay_storable (c : Dev nD) : BI.Storable (upEmb : UEmb _ 𝕄) (copyPay (F := F) m c) := by unfold copyPay; infer_instance

/-- The duties of a key's semaphore: a barrier has one from each other device, a transfer's semaphore one, the two of
    offset 0 none. -/
def dutiesAt : Key → Finset (Fin 16)
  | .inl _ => Finset.univ.erase 0
  | .inr (.inl _) => {0}
  | .inr (.inr (.inl e)) => if e = 0 then ∅ else {0}
  | .inr (.inr (.inr e)) => if e = 0 then ∅ else {0}
/-- Units per duty. -/
def amountAt : Key → ℕ
  | .inl _ => 1
  | .inr (.inl _) => NX
  | .inr (.inr _) => N
/-- What a duty delivers to device `c`. -/
def payAt (c : Dev nD) (d : Fin 16) : Key → sProp 𝕄
  | .inl _ => barPay c d
  | .inr (.inl _) => copyPay m c
  | .inr (.inr (.inl e)) => sentPts m c (part e)
  | .inr (.inr (.inr e)) => slotPts c e (gathered m c)

instance payAt_storable (c : Dev nD) (d : Fin 16) (k : Key) : BI.Storable (upEmb : UEmb _ 𝕄) (payAt (F := F) m c d k) := by
  rcases k with _ | _ | _ | _ <;> unfold payAt <;> infer_instance

theorem amountAt_pos (k : Key) : 0 < amountAt k := by
  rcases k with _ | _ | _ | _
  · exact Nat.one_pos
  · exact NX_pos
  · exact N_pos
  · exact N_pos

/-- One round per semaphore, round 0. -/
def plan : Rounds.Schedule (GSem nD τ sig) (Fin 16) 𝕄 where
  duties g r := if r = 0 ∧ g.1.2 = .tc then (keyOf g.2).elim ∅ dutiesAt else ∅
  unitless _ := False
  amount g _ _ := (keyOf g.2).elim 1 amountAt
  payload g _ d := (keyOf g.2).elim iprop(emp) (payAt m g.1.1 d)
  amount_pos g _ _ _ := by
    rcases keyOf g.2 with _ | k
    · exact Nat.one_pos
    · exact amountAt_pos k

instance plan_payload_storable (g : GSem nD τ sig) (r : ℕ) (d : Fin 16) :
    BI.Storable (upEmb : UEmb _ 𝕄) ((plan (F := F) m).payload g r d) := by
  show BI.Storable upEmb ((keyOf g.2).elim iprop(emp) (payAt m g.1.1 d))
  rcases keyOf g.2 with _ | k
  · dsimp only [Option.elim]; infer_instance
  · dsimp only [Option.elim]; infer_instance

theorem plan_duties (c : Dev nD) (k : Key) : (plan (F := F) m).duties (kcell (c, k)) 0 = dutiesAt k := by
  dsimp only [plan, kcell]; rw [if_pos ⟨rfl, rfl⟩, keyOf_csem]; rfl
theorem plan_later (g : GSem nD τ sig) : ∀ r, 1 ≤ r → (plan (F := F) m).duties g r = ∅ :=
  fun r hr => by dsimp only [plan]; exact if_neg fun h => by omega
theorem plan_amount (c : Dev nD) (k : Key) (r : ℕ) (d : Fin 16) : (plan (F := F) m).amount (kcell (c, k)) r d = amountAt k := by
  dsimp only [plan, kcell]; rw [keyOf_csem]; rfl
theorem plan_payload (c : Dev nD) (k : Key) (r : ℕ) (d : Fin 16) : (plan (F := F) m).payload (kcell (c, k)) r d = payAt m c d k := by
  dsimp only [plan, kcell]; rw [keyOf_csem]; rfl
theorem plan_expect (c : Dev nD) (k : Key) : (plan (F := F) m).expect (kcell (c, k)) 0 = (dutiesAt k).card * amountAt k := by
  unfold Schedule.expect Schedule.amountOf
  rw [plan_duties, Finset.sum_congr rfl fun d _ => plan_amount m c k 0 d, Finset.sum_const, smul_eq_mul]
/-- All that a semaphore's round delivers. -/
theorem plan_rest (c : Dev nD) (k : Key) :
    bigSep ((plan (F := F) m).duties (kcell (c, k)) 0 \ ∅) (fun d => (plan (F := F) m).payload (kcell (c, k)) 0 d)
      = bigSep (dutiesAt k) (fun d => payAt m c d k) := by
  rw [Finset.sdiff_empty, plan_duties]
  exact bigSep_congr fun d _ => plan_payload m c k 0 d

theorem dutiesAt_send {e : Fin 16} (h : e ≠ 0) : dutiesAt (kSend e) = {0} := if_neg h
theorem dutiesAt_recv {e : Fin 16} (h : e ≠ 0) : dutiesAt (kRecv e) = {0} := if_neg h

/-! ## What a device owes at launch, and the levels -/

/-- The receive credits device `c` still owes, offsets from `n` on. -/
def oweRecv (c : Dev nD) (n : ℕ) : CellTallies nD τ sig Unit := ∑ e ∈ from_ n, tallyAt (recvCell (peer c e) e) () N
/-- The barrier units device `c` still owes, offsets from `n` on. -/
def oweBar (c : Dev nD) (n : ℕ) : CellTallies nD τ sig Unit := ∑ e ∈ from_ n, tallyAt (barCell (peer c e)) () 1
/-- What it owes at launch. -/
def O₀ (c : Dev nD) : CellTallies nD τ sig Unit := oweRecv c 1 + oweBar c 1

theorem oweRecv_step (c : Dev nD) (n : ℕ) (h : n < 16) :
    oweRecv c n = oweRecv c (n + 1) + tallyAt (recvCell (peer c ⟨n, h⟩) ⟨n, h⟩) () N := by
  unfold oweRecv; rw [from_eq_insert n h, Finset.sum_insert (not_mem_from_succ n h), add_comm]
theorem oweBar_step (c : Dev nD) (n : ℕ) (h : n < 16) :
    oweBar c n = oweBar c (n + 1) + tallyAt (barCell (peer c ⟨n, h⟩)) () 1 := by
  unfold oweBar; rw [from_eq_insert n h, Finset.sum_insert (not_mem_from_succ n h), add_comm]
theorem oweRecv_end (c : Dev nD) : oweRecv c 16 = 0 := by unfold oweRecv; rw [from_end, Finset.sum_empty]
theorem oweBar_end (c : Dev nD) : oweBar c 16 = 0 := by unfold oweBar; rw [from_end, Finset.sum_empty]

def L (g : GSem nD τ sig) : Finset Unit := if g.1.2 = .tc then {()} else ∅
/-- Barriers at 1, receive semaphores at 2, everything else at 0. -/
def lvAt : Option Key → ℕ
  | some (.inl _) => 1
  | some (.inr (.inr (.inr _))) => 2
  | _ => 0
def lv (g : GSem nD τ sig) (_ : Unit) : ℕ := lvAt (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Key) (u : Unit) : lv (kcell (c, k)) u = lvAt (some k) := by dsimp only [lv, kcell]; rw [keyOf_csem]

theorem sum_tally_pos {S : Finset (Fin 16)} {f : Fin 16 → CellTallies nD τ sig Unit} {g : GSem nD τ sig} {u : Unit}
    (h : 0 < (∑ e ∈ S, f e) g u) : ∃ e ∈ S, 0 < f e g u := by
  rw [Finset.sum_apply, Finsupp.finset_sum_apply] at h
  by_contra hn
  have h0 : ∑ e ∈ S, f e g u = 0 := Finset.sum_eq_zero fun e he => by
    by_contra h'; exact hn ⟨e, he, Nat.pos_of_ne_zero h'⟩
  omega

theorem tally_pos {g₀ g : GSem nD τ sig} {u : Unit} {n : ℕ} (h : 0 < (tallyAt g₀ () n : CellTallies nD τ sig Unit) g u) : g = g₀ := by
  rw [tallyAt_apply] at h
  by_contra hn
  rw [if_neg (fun h' => hn h'.1)] at h
  exact Nat.lt_irrefl 0 h

theorem oweRecv_pos {c : Dev nD} {n : ℕ} {g : GSem nD τ sig} {u : Unit} (h : 0 < oweRecv c n g u) : ∃ e, g = recvCell (peer c e) e := by
  obtain ⟨e, -, he⟩ := sum_tally_pos h; exact ⟨e, tally_pos he⟩
theorem oweBar_pos {c : Dev nD} {n : ℕ} {g : GSem nD τ sig} {u : Unit} (h : 0 < oweBar c n g u) : ∃ e, g = barCell (peer c e) := by
  obtain ⟨e, -, he⟩ := sum_tally_pos h; exact ⟨e, tally_pos he⟩

/-- A wait on a semaphore at a level below everything owed may be entered: here at level 0, whatever of the launch's
    debts remains. -/
theorem mayWait_low (c : Dev nD) (q : DmaSem sig) (hq : lvAt (keyOf (.dma q)) = 0) (n k : ℕ) :
    (levAts L lv : sProp 𝕄) ⊢ MayWait (c : Thread nD τ) (.dma q) () (oweRecv c n + oweBar c k) := by
  have hcases {g : GSem nD τ sig} {u : Unit} (hg : 0 < (oweRecv c n + oweBar c k) g u) :
      ∃ e, g = recvCell (peer c e) e ∨ g = barCell (peer c e) := by
    rw [Pi.add_apply, Finsupp.add_apply] at hg
    rcases Nat.eq_zero_or_pos (oweRecv c n g u) with h0 | h0
    · obtain ⟨e, he⟩ := oweBar_pos (c := c) (n := k) (g := g) (u := u) (by omega); exact ⟨e, .inr he⟩
    · obtain ⟨e, he⟩ := oweRecv_pos h0; exact ⟨e, .inl he⟩
  exact MayOwe.of_cut (L := L) (lev := lv) 0 (fun p hp => by rw [Finset.mem_singleton.mp hp, L_tc]; exact Finset.mem_singleton_self _)
      (fun g u hg => by obtain ⟨e, rfl | rfl⟩ := hcases hg <;> exact Finset.mem_singleton_self _)
      (fun p hp => by rw [Finset.mem_singleton.mp hp]; exact le_of_eq hq)
      (fun g u hg => by
        obtain ⟨e, rfl | rfl⟩ := hcases hg
        · rw [lv_kcell]; exact Nat.zero_lt_two
        · rw [lv_kcell]; exact Nat.one_pos)

/-- At its barrier a device owes receive credits only, which lie above. -/
theorem mayWait_bar (c : Dev nD) (n : ℕ) :
    (levAts L lv : sProp 𝕄) ⊢ MayWait (c : Thread nD τ) (csem kBar) () (oweRecv c n) :=
  MayOwe.of_cut (L := L) (lev := lv) 1 (fun p hp => by rw [Finset.mem_singleton.mp hp, L_tc]; exact Finset.mem_singleton_self _)
    (fun g u hg => by obtain ⟨e, rfl⟩ := oweRecv_pos hg; exact Finset.mem_singleton_self _)
    (fun p hp => by rw [Finset.mem_singleton.mp hp]; exact le_of_eq (lv_kcell c kBar ()))
    (fun g u hg => by obtain ⟨e, rfl⟩ := oweRecv_pos hg; rw [lv_kcell]; exact Nat.one_lt_two)

end Cert.Exchange

end
-- ==== Proof.Contents.lean ====
/-
# What the exchange's buffers hold

The sets of elements behind the gathering buffer's slots, and what each copy, store and load of the kernel makes of the
contents named in Protocol.lean.
-/
module

public import proofs.«01_k».proof.Proof.Protocol

@[expose] public section

set_option maxRecDepth 16384

noncomputable section

namespace Cert.Exchange

open Cert.KernelIdeal Cert.KernelIdeal.Gen

open Idealize.ShloMosaic
open Idealize.ShloMosaic.TcCoe
open Idealize.ShloMosaic.ValueIdx

variable {F : FTy → Type} [FloatOps F]
variable (m : (ℓ : Loc nD τ sig) → Buf (Elt F) ℓ)

/-! ## The slots -/

/-- The rectangle of slot `e`. -/
abbrev slotR (e : Fin 16) : Rect S16x2x256 := Rect.unit (s := S16x2x256) ![e.val, 0, 0] S1x2x256.size (inb_slot e)

theorem slot_set (e : Fin 16) : (slotM e).view.set = (slotR e).set := by
  show ((View.whole cc0_scratch2).slice (slotR e) |>.reshape S2x256 squeezes_S1x2x256_S2x256.numel_eq).set = _
  rw [View.set_reshape]
  exact View.set_slice_whole cc0_scratch2 (slotR e)

theorem slots_disjoint (e e' : Fin 16) (h : e ≠ e') : Disjoint (slotM e).view.set (slotM e').view.set := by
  rw [slot_set, slot_set]
  exact Ring.lead_disjoint (s := S16x2x256) (NB := 16) 0 1 (fun b => ![b.val, 0, 0]) S1x2x256.size inb_slot
    (fun b => (Nat.one_mul _).symm) rfl e e' h

theorem slots_cover : Finset.biUnion (β := S16x2x256.Idx) Finset.univ (fun e : Fin 16 => (slotM e).view.set) = Finset.univ := by
  refine (congrArg (fun K : Fin 16 → Finset S16x2x256.Idx => Finset.univ.biUnion K) (funext slot_set)).trans ?_
  exact Ring.lead_cover (s := S16x2x256) (NB := 16) 0 1 (fun b => ![b.val, 0, 0]) S1x2x256.size inb_slot
    (fun b => (Nat.one_mul _).symm) (fun b a ha => by revert a; decide +revert) rfl (by decide) rfl

/-- An element of slot `e` is at `(e, r, j)`. -/
theorem slot_lead {e : Fin 16} {i : S16x2x256.Idx} (hi : i ∈ (slotR e).set) : i 0 = e := by
  have h := Rect.mem_set_unit.mp hi 0
  refine Fin.ext ?_
  change e.val ≤ (i 0).val ∧ (i 0).val < e.val + 1 at h
  omega

/-- Where slot `e` has its row `r`, column `j`. -/
theorem slot_emb (e : Fin 16) (r : Fin 2) (j : Fin 256) : (slotM e).view.emb (ix2 r j) = (ix3 e r j : S16x2x256.Idx) := by
  show ((View.whole cc0_scratch2).slice (slotR e)).emb (Shape.reshapeEquiv squeezes_S1x2x256_S2x256.numel_eq (ix2 r j)) = _
  rw [reshapeEquiv_ix2_1ab]
  refine funext fun a => Fin.ext ?_
  show (((slotR e).emb (ix3 (⟨0, Nat.one_pos⟩ : Fin 1) r j)) a).val = _
  rw [Rect.emb_apply]
  fin_cases a
  · show e.val + 1 * 0 = e.val; omega
  · show 0 + 1 * r.val = r.val; omega
  · show 0 + 1 * j.val = j.val; omega

/-! ## Whole buffers, accessed at a rectangle -/

/-- A store at a rectangle of a whole buffer puts the payload there. -/
theorem put_hit (b : Ref sig .tc) (r : Rect b.ty.shape) (f : b.ty.Contents (Elt F)) (w : r.shape.Idx → Elt F b.ty.elt)
    (x : r.shape.Idx) {i : b.ty.shape.Idx} (h : r.emb x = i) :
    ((Memref.whole b).access r : View sig .tc _ _ _).write (Elt F) f w Finset.univ i = w x := by
  subst h
  exact View.write_emb_of_mem (v := ((Memref.whole b).access r : View sig .tc _ _ _)) f w (Finset.mem_univ x)

/-- And leaves the rest. -/
theorem put_miss (b : Ref sig .tc) (r : Rect b.ty.shape) (f : b.ty.Contents (Elt F)) (w : r.shape.Idx → Elt F b.ty.elt)
    {i : b.ty.shape.Idx} (h : i ∉ r.set) :
    ((Memref.whole b).access r : View sig .tc _ _ _).write (Elt F) f w Finset.univ i = f i :=
  View.write_of_not_mem _ _ _ (by
    show i ∉ ((Memref.whole b).access r : View sig .tc _ _ _).set
    rw [show ((Memref.whole b).access r : View sig .tc _ _ _).set = r.set from View.set_slice_whole b r]; exact h)

/-- A load at a rectangle of a whole buffer reads it there. -/
theorem get_apply (b : Ref sig .tc) (r : Rect b.ty.shape) (f : b.ty.Contents (Elt F)) (x : r.shape.Idx) :
    (Memref.whole b : Memref sig .tc _ _ _).view.readAt (Elt F) r.toLoadRect f x = f (r.emb x) := rfl

/-! ## The two-row buffers -/

abbrev rowR0 : Rect S2x256 := Rect.unit (s := S2x256) ![0, 0] S1x256.size inb_S2x256_S1x256_0_0
abbrev rowR1 : Rect S2x256 := Rect.unit (s := S2x256) ![1, 0] S1x256.size inb_S2x256_S1x256_1_0

theorem rowR0_emb (j : Fin 256) : rowR0.emb (ix2 (0 : Fin 1) j) = (ix2 0 j : S2x256.Idx) := by
  refine funext fun a => Fin.ext ?_
  rw [Rect.emb_apply]
  fin_cases a
  · rfl
  · show 0 + 1 * j.val = j.val; omega
theorem rowR1_emb (j : Fin 256) : rowR1.emb (ix2 (0 : Fin 1) j) = (ix2 1 j : S2x256.Idx) := by
  refine funext fun a => Fin.ext ?_
  rw [Rect.emb_apply]
  fin_cases a
  · rfl
  · show 0 + 1 * j.val = j.val; omega
theorem row0_not_mem (j : Fin 256) : (ix2 0 j : S2x256.Idx) ∉ rowR1.set := fun h => by
  have := (Rect.mem_set_unit.mp h 0).1
  change 1 ≤ 0 at this; omega

/-- Two rows as one array. -/
def rows (a b : Vec F S1x256 .f32) : Vec F S2x256 .f32 := fun i => if (i 0).val = 0 then a (ix2 0 (i 1)) else b (ix2 0 (i 1))

/-- A two-row buffer after a store to each row holds the two payloads: the outgoing rows' buffer, -/
theorem puts_sent (f : (cc0_scratch1 : Ref sig .tc).ty.Contents (Elt F)) (u v : Vec F S1x256 .f32) :
    (sM.access rowR1 : View sig .tc _ _ _).write (Elt F) ((sM.access rowR0 : View sig .tc _ _ _).write (Elt F) f u Finset.univ) v Finset.univ
      = rows u v := by
  funext i
  rw [eq_ix2 (n0 := 2) (n1 := 256) i]
  obtain ⟨r, j, hr, hj⟩ : ∃ (r : Fin 2) (j : Fin 256), i 0 = r ∧ i 1 = j := ⟨i 0, i 1, rfl, rfl⟩
  rw [hr, hj]
  rcases (show r = 0 ∨ r = 1 by omega) with rfl | rfl
  · exact (put_miss cc0_scratch1 rowR1 _ v (row0_not_mem j)).trans (put_hit cc0_scratch1 rowR0 f u _ (rowR0_emb j))
  · exact put_hit cc0_scratch1 rowR1 _ v _ (rowR1_emb j)

/-- and the result's. -/
theorem puts_out (f : (cc0_stg0_0 : Ref sig .tc).ty.Contents (Elt F)) (u v : Vec F S1x256 .f32) :
    (outM.access rowR1 : View sig .tc _ _ _).write (Elt F) ((outM.access rowR0 : View sig .tc _ _ _).write (Elt F) f u Finset.univ) v Finset.univ
      = rows u v := by
  funext i
  rw [eq_ix2 (n0 := 2) (n1 := 256) i]
  obtain ⟨r, j, hr, hj⟩ : ∃ (r : Fin 2) (j : Fin 256), i 0 = r ∧ i 1 = j := ⟨i 0, i 1, rfl, rfl⟩
  rw [hr, hj]
  rcases (show r = 0 ∨ r = 1 by omega) with rfl | rfl
  · exact (put_miss cc0_stg0_0 rowR1 _ v (row0_not_mem j)).trans (put_hit cc0_stg0_0 rowR0 f u _ (rowR0_emb j))
  · exact put_hit cc0_stg0_0 rowR1 _ v _ (rowR1_emb j)

theorem sent_eq (c : Dev nD) : sent m c = rows (k0_pay3 (xin m c)) (k0_pay4 (wordOf c) (xin m c)) := rfl

/-! ## Arrival in a slot -/

/-- What the copy of offset `e` leaves in slot `e`, whatever it held: the gathered contents. -/
theorem arrived (c : Dev nD) (e : Fin 16) (fd : (cc0_scratch2 : Ref sig .tc).ty.Contents (Elt F)) :
    ∀ i ∈ (slotM e).view.set, (slotM e).view.write (Elt F) fd (sM.view.read (Elt F) (sent m (back c e))) Finset.univ i = gathered m c i := by
  intro i hi
  obtain ⟨x, -, rfl⟩ := Finset.mem_map.mp hi
  obtain ⟨r, j, rfl⟩ : ∃ (r : Fin 2) (j : Fin 256), x = (ix2 r j : S2x256.Idx) := ⟨x 0, x 1, eq_ix2 (n0 := 2) (n1 := 256) x⟩
  refine (View.write_emb_of_mem (v := (slotM e).view) fd _ (Finset.mem_univ (ix2 r j : S2x256.Idx))).trans ?_
  exact (congrArg (gathered m c) (slot_emb e r j)).symm

/-! ## The own slot -/

abbrev ownR0 : Rect S16x2x256 := Rect.unit (s := S16x2x256) ![0, 0, 0] S1x1x256.size inb_S16x2x256_S1x1x256_0_0_0
abbrev ownR1 : Rect S16x2x256 := Rect.unit (s := S16x2x256) ![0, 1, 0] S1x1x256.size inb_S16x2x256_S1x1x256_0_1_0

theorem ownR0_sub : ownR0.set ⊆ (slotR 0).set := fun i hi => by
  have h := Rect.mem_set_unit.mp hi
  refine Rect.mem_set_unit.mpr fun a => ?_
  have ha := h a
  fin_cases a
  · exact ha
  · change 0 ≤ (i 1).val ∧ (i 1).val < 0 + 1 at ha
    show 0 ≤ (i 1).val ∧ (i 1).val < 0 + 2; omega
  · exact ha
theorem ownR1_sub : ownR1.set ⊆ (slotR 0).set := fun i hi => by
  have h := Rect.mem_set_unit.mp hi
  refine Rect.mem_set_unit.mpr fun a => ?_
  have ha := h a
  fin_cases a
  · exact ha
  · change 1 ≤ (i 1).val ∧ (i 1).val < 1 + 1 at ha
    show 0 ≤ (i 1).val ∧ (i 1).val < 0 + 2; omega
  · exact ha

theorem ownR0_emb (j : Fin 256) : ownR0.emb (ix3 (0 : Fin 1) (0 : Fin 1) j) = (ix3 0 0 j : S16x2x256.Idx) := by
  refine funext fun a => Fin.ext ?_
  rw [Rect.emb_apply]
  fin_cases a
  · rfl
  · rfl
  · show 0 + 1 * j.val = j.val; omega
theorem ownR1_emb (j : Fin 256) : ownR1.emb (ix3 (0 : Fin 1) (0 : Fin 1) j) = (ix3 0 1 j : S16x2x256.Idx) := by
  refine funext fun a => Fin.ext ?_
  rw [Rect.emb_apply]
  fin_cases a
  · rfl
  · rfl
  · show 0 + 1 * j.val = j.val; omega
theorem own0_not_mem (j : Fin 256) : (ix3 0 0 j : S16x2x256.Idx) ∉ ownR1.set := fun h => by
  have := (Rect.mem_set_unit.mp h 1).1
  change 1 ≤ 0 at this; omega

/-- One row under two leading unit axes, or under one. -/
theorem cast_row2 (x : FVec F S256 .f32) (j : Fin 256) :
    shapeCast S1x256 x shapeCasts_S256_S1x256 (ix2 0 j) = x (ix1 j) := shapeCast_a_1a_apply x _ 0 j
theorem cast_row3 (x : FVec F S256 .f32) (j : Fin 256) :
    shapeCast S1x1x256 x shapeCasts_S256_S1x1x256 (ix3 0 0 j) = x (ix1 j) := by
  unfold shapeCast
  refine congrArg x (Shape.reshapeEquiv_eq_of_rowMajor _ ?_)
  rw [Shape.rowMajor_val_three, Shape.rowMajor_val_one]
  show j.val = (0 * 1 + 0) * 256 + j.val
  omega

theorem pay5_row (x : Vec F S256x256 .f32) (j : Fin 256) : k0_pay5 x (ix3 0 0 j) = k0_pay3 x (ix2 0 j) := by
  unfold k0_pay5 k0_pay3
  exact (cast_row3 (k0_pay1 x) j).trans (cast_row2 (k0_pay1 x) j).symm
theorem pay6_row (w : BitVec 32) (x : Vec F S256x256 .f32) (j : Fin 256) : k0_pay6 w x (ix3 0 0 j) = k0_pay4 w x (ix2 0 j) := by
  unfold k0_pay6 k0_pay4
  exact (cast_row3 (k0_pay2 w x) j).trans (cast_row2 (k0_pay2 w x) j).symm

/-- An element of the own slot by its row and column. -/
theorem own_at (i : S16x2x256.Idx) (hi : i ∈ (slotR 0).set) : ∃ (r : Fin 2) (j : Fin 256), i = ix3 0 r j :=
  ⟨i 1, i 2, (eq_ix3 (n0 := 16) (n1 := 2) (n2 := 256) i).trans (congrArg (fun e => ix3 e (i 1) (i 2)) (slot_lead hi))⟩

/-- The two local stores leave the own rows in slot 0. -/
theorem own_stores (c : Dev nD) (f : (cc0_scratch2 : Ref sig .tc).ty.Contents (Elt F)) :
    ∀ i ∈ (slotM 0).view.set,
      (gM.access ownR1 : View sig .tc _ _ _).write (Elt F)
        ((gM.access ownR0 : View sig .tc _ _ _).write (Elt F) f (k0_pay5 (xin m c)) Finset.univ)
        (k0_pay6 (wordOf c) (xin m c)) Finset.univ i = gathered m c i := by
  intro i hi
  rw [slot_set] at hi
  obtain ⟨r, j, rfl⟩ := own_at i hi
  rcases (show r = 0 ∨ r = 1 by omega) with rfl | rfl
  · refine ((put_miss cc0_scratch2 ownR1 _ _ (own0_not_mem j)).trans (put_hit cc0_scratch2 ownR0 f _ _ (ownR0_emb j))).trans ?_
    refine (pay5_row _ j).trans ?_
    exact (congrArg (fun d => sent m d (ix2 0 j)) (back_zero c)).symm
  · refine (put_hit cc0_scratch2 ownR1 _ _ _ (ownR1_emb j)).trans ?_
    refine (pay6_row _ _ j).trans ?_
    exact (congrArg (fun d => sent m d (ix2 1 j)) (back_zero c)).symm

/-! ## Whole-buffer copies and loads -/

theorem zero2 : (![0, 0] : Fin 2 → Nat) = fun _ => 0 := funext fun a => by fin_cases a <;> rfl

/-- The load of the whole copied block. -/
theorem load_x (f : (cc0_scratch0 : Ref sig .tc).ty.Contents (Elt F)) :
    xM.view.readAt (Elt F) (Rect.unit (s := S256x256) ![0, 0] S256x256.size inb_S256x256_S256x256_0_0).toLoadRect f = f :=
  Memref.readAt_unit_zero (Elt F) cc0_scratch0 zero2 _ f

/-- The local copy leaves the argument's block. -/
theorem copied (c : Dev nD) (f : (cc0_scratch0 : Ref sig .tc).ty.Contents (Elt F)) :
    xM.view.write (Elt F) f (argM.view.read (Elt F) (m ((c : Thread nD τ).loc main_arg0))) Finset.univ = xin m c :=
  View.write_whole_univ (Val := Elt F) cc0_scratch0 f (xin m c)

/-! ## The reduction's result -/

abbrev colR0 : Rect S16x2x256 := Rect.unit (s := S16x2x256) ![0, 0, 0] S16x1x256.size inb_S16x2x256_S16x1x256_0_0_0
abbrev colR1 : Rect S16x2x256 := Rect.unit (s := S16x2x256) ![0, 1, 0] S16x1x256.size inb_S16x2x256_S16x1x256_0_1_0

/-- The gathered maxima and the gathered row numbers, as the kernel loads them. -/
def vals (c : Dev nD) : Vec F S16x1x256 .f32 := gM.view.readAt (Elt F) colR0.toLoadRect (gathered m c)
def idxs (c : Dev nD) : Vec F S16x1x256 .f32 := gM.view.readAt (Elt F) colR1.toLoadRect (gathered m c)

theorem colR0_emb (e : Fin 16) (j : Fin 256) : colR0.emb (ix3 e (0 : Fin 1) j) = (ix3 e 0 j : S16x2x256.Idx) := by
  refine funext fun a => Fin.ext ?_
  rw [Rect.emb_apply]
  fin_cases a
  · show 0 + 1 * e.val = e.val; omega
  · rfl
  · show 0 + 1 * j.val = j.val; omega
theorem colR1_emb (e : Fin 16) (j : Fin 256) : colR1.emb (ix3 e (0 : Fin 1) j) = (ix3 e 1 j : S16x2x256.Idx) := by
  refine funext fun a => Fin.ext ?_
  rw [Rect.emb_apply]
  fin_cases a
  · show 0 + 1 * e.val = e.val; omega
  · rfl
  · show 0 + 1 * j.val = j.val; omega
theorem vals_apply (c : Dev nD) (e : Fin 16) (j : Fin 256) : vals m c (ix3 e (0 : Fin 1) j) = sent m (back c e) (ix2 0 j) := by
  unfold vals
  have h := congrArg (gathered m c) (colR0_emb e j)
  exact (get_apply cc0_scratch2 colR0 (gathered m c) _).trans (h.trans rfl)
theorem idxs_apply (c : Dev nD) (e : Fin 16) (j : Fin 256) : idxs m c (ix3 e (0 : Fin 1) j) = sent m (back c e) (ix2 1 j) := by
  unfold idxs
  have h := congrArg (gathered m c) (colR1_emb e j)
  exact (get_apply cc0_scratch2 colR1 (gathered m c) _).trans (h.trans rfl)

/-- The kernel's result on device `c`. -/
def outAt (c : Dev nD) : Vec F S2x256 .f32 := rows (k0_pay9 (vals m c)) (k0_pay10 (vals m c) (idxs m c))

end Cert.Exchange

end
-- ==== Proof.Steps.lean ====
/-
# The exchange's steps

What a device holds between two instructions of each of the kernel's four loops over the offsets, and one lemma per
loop that takes it from one offset to the next.
-/
module

public import proofs.«01_k».proof.Proof.Contents

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The offsets already done -/

/-- The offsets from 1 to `n - 1`. -/
def upto (n : ℕ) : Finset (Fin 16) := Finset.univ.filter fun e => 1 ≤ e.val ∧ e.val < n

theorem mem_upto {n : ℕ} {e : Fin 16} : e ∈ upto n ↔ 1 ≤ e.val ∧ e.val < n := by simp [upto]
theorem not_mem_upto (n : ℕ) (h : n < 16) : (⟨n, h⟩ : Fin 16) ∉ upto n := by rw [mem_upto]; simp
theorem upto_succ (n : ℕ) (h : n < 16) (h1 : 1 ≤ n) : upto (n + 1) = insert ⟨n, h⟩ (upto n) := by
  ext e; rw [Finset.mem_insert, mem_upto, mem_upto, Fin.ext_iff]; simp only; omega
theorem upto_one : upto 1 = ∅ := by decide
theorem upto_end : upto 16 = Finset.univ.erase 0 := by decide

theorem bigSep_from (n : ℕ) (h : n < 16) (Φ : Fin 16 → sProp 𝕄) :
    bigSep (from_ n) Φ = iprop(Φ ⟨n, h⟩ ∗ bigSep (from_ (n + 1)) Φ) := by
  rw [from_eq_insert n h]; exact bigSep_insert (not_mem_from_succ n h)
theorem bigSep_upto (n : ℕ) (h : n < 16) (h1 : 1 ≤ n) (Φ : Fin 16 → sProp 𝕄) :
    bigSep (upto (n + 1)) Φ = iprop(Φ ⟨n, h⟩ ∗ bigSep (upto n) Φ) := by
  rw [upto_succ n h h1]; exact bigSep_insert (not_mem_upto n h)

theorem ne_zero_of (n : ℕ) (h : n < 16) (h1 : 1 ≤ n) : (⟨n, h⟩ : Fin 16) ≠ 0 := fun he => by
  have := congrArg Fin.val he; change n = 0 at this; omega

/-! ## What everybody knows -/

/-- Every semaphore's invariant, and that every semaphore has reached its round; the levels. -/
def known (K : Dev nD × Key → ℕ) : sProp 𝕄 :=
  iprop((bigSep Finset.univ fun ck => cellInv EX (plan (F := F) m) (K ck) (kcell ck))
    ∗ (bigSep Finset.univ fun ck : Dev nD × Key => (reached EX (kcell ck) 0 : sProp 𝕄)) ∗ levAts L lv)

instance known_persistent (K : Dev nD × Key → ℕ) : BI.Persistent (known (F := F) m K) := by unfold known; infer_instance

/-- One summand of many. -/
theorem pick {I : Type} [DecidableEq I] [Fintype I] (Φ : I → sProp 𝕄) (i : I) : bigSep Finset.univ Φ ⊢ Φ i := bigSep_elim (Finset.mem_univ i)

theorem known_inv (K : Dev nD × Key → ℕ) (ck : Dev nD × Key) : known m K ⊢ cellInv EX (plan (F := F) m) (K ck) (kcell ck) := by
  unfold known
  iintro ⟨H, -, -⟩
  iapply (pick _ ck) $$ H
theorem known_reached (K : Dev nD × Key → ℕ) (ck : Dev nD × Key) : known (F := F) m K ⊢ reached EX (kcell ck) 0 := by
  unfold known
  iintro ⟨-, H, -⟩
  iapply (pick _ ck) $$ H
theorem known_lev (K : Dev nD × Key → ℕ) : known (F := F) m K ⊢ levAts L lv := by
  unfold known
  iintro ⟨-, -, H⟩
  iexact H

/-- What device `c` owes, whatever waits it has entered. -/
def debt (c : Dev nD) (O : CellTallies nD τ sig Unit) : sProp 𝕄 := iprop(∃ W, owes (c : Thread nD τ) O W)

/-! ## The four loops' states -/

/-- Before the signal of offset `n`. -/
def signalling (c : Dev nD) (n : ℕ) : sProp 𝕄 :=
  iprop(debt c (oweRecv c 1 + oweBar c n)
    ∗ bigSep (from_ n) fun e => iprop(dutyTok EX (barCell (peer c e)) 0 (opp e) ∗ ∃ f, slotPts c (opp e) f))

/-- Before the transfer of offset `n`. -/
def sending (c : Dev nD) (n : ℕ) : sProp 𝕄 :=
  iprop(debt c (oweRecv c n)
    ∗ (bigSep (from_ n) fun e => iprop((dutyTok EX (sendCell c e) 0 0 ∗ dutyTok EX (recvCell (peer c e) e) 0 0)
        ∗ sentPts m c (part e) ∗ ∃ f, slotPts (peer c e) e f))
    ∗ bigSep (upto n) fun e => cred (tallyAt (sendCell c e) () N))

/-- Before the wait of offset `n` on the semaphores `κ`. -/
def draining (κ : Fin 16 → Key) (c : Dev nD) (n : ℕ) : sProp 𝕄 :=
  iprop(debt c 0
    ∗ (bigSep (from_ n) fun e => iprop(cred (tallyAt (kcell (c, κ e)) () N) ∗ atPos EX (kcell (c, κ e)) 0 ∅ 0))
    ∗ bigSep (upto n) fun e => iprop(payAt m c 0 (κ e) ∗ atPos EX (kcell (c, κ e)) 1 ∅ 0))

variable (K : Dev nD × Key → ℕ)

/-! ## The steps -/

/-- What the signal of offset `e` hands over: the sender's slot of the opposite offset. -/
theorem payload_bar (c : Dev nD) (e : Fin 16) :
    (plan (F := F) m).payload (barCell (peer c e)) 0 (opp e) = iprop(∃ f, slotPts c (opp e) f) := by
  refine (plan_payload m (peer c e) kBar 0 (opp e)).trans ?_
  unfold payAt barPay; rw [peer_opp]

/-- What a transfer into a slot credits. -/
theorem credit_slot (e : Fin 16) : (slotM e).view.dmaCredit = N := rfl

/-- What the arrival of offset `e` hands the device it arrives at. -/
theorem payload_recv (c : Dev nD) (e : Fin 16) (f : Buf (Elt F) ((slotM e).view.loc (peer c e : Thread nD τ))) :
    ((slotM e).view.loc (peer c e : Thread nD τ) ↦[(slotM e).view.set]{fullShare}
        (slotM e).view.write (Elt F) f (sM.view.read (Elt F) (sent m c)) Finset.univ : sProp 𝕄)
      ⊢ (plan (F := F) m).payload (recvCell (peer c e) e) 0 0 := by
  rw [plan_payload m (peer c e) (kRecv e)]
  show _ ⊢ slotPts (peer c e) e (gathered m (peer c e))
  unfold slotPts
  refine Entails.of_eq (pointsTo_congr fun i hi => ?_)
  have h := arrived m (peer c e) e f i hi
  rw [back_peer] at h
  exact h

/-- A signal to the device `n` places on, handing over the slot it will write. -/
theorem signal_step (c : Dev nD) (n : ℕ) (d : Dev nD) {α : Type} {Q : α → sProp 𝕄} {k : PUnit → Prog (TpuEff nD τ sig (Elt F) Λ₀ .tc) α} :
    iprop(known m K ∗ signalling c n ∗ ⌜∃ hn : n < 16, 1 ≤ n ∧ d = peer c ⟨n, hn⟩⌝)
      ⊢ iprop((signalling c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc d : Thread nD τ) barS 1) k) Q) := by
  unfold signalling debt
  iintro ⟨#Hk, ⟨⟨%W, HO⟩, HS⟩, %hp⟩
  obtain ⟨hn, h1, rfl⟩ := hp
  ihave HS := (Entails.of_eq (bigSep_from n hn _)) $$ HS
  icases HS with ⟨⟨Ht, Hs⟩, HS⟩
  iintro Hcont
  iapply (Rounds.wp_signal 𝒱₀ EX (plan m) (c : Thread nD τ) none (dst := (peer c ⟨n, hn⟩ : Thread nD τ)) (sem := barS)
      (κ := K (peer c ⟨n, hn⟩, kBar)) (r := 0) (d := opp ⟨n, hn⟩)
      (by rw [plan_duties m (peer c ⟨n, hn⟩) kBar]; exact Finset.mem_erase.mpr ⟨opp_ne_zero (ne_zero_of n hn h1), Finset.mem_univ _⟩)
      (k' := 1) (plan_amount m (peer c ⟨n, hn⟩) kBar 0 _) () (O₀ := oweRecv c 1 + oweBar c n) (oweRecv c 1 + oweBar c (n + 1))
      (by rw [oweBar_step c n hn, add_assoc]) (W := W)) $$ [HO Ht Hs]
  · isplitr; · iapply (known_inv m K (peer c ⟨n, hn⟩, kBar)); iexact Hk
    isplitl [HO]; · iexact HO
    isplitl [Ht]; · iexact Ht
    isplitl [Hs]
    · rw [payload_bar]; iexact Hs
    · iapply (known_reached m K (peer c ⟨n, hn⟩, kBar)); iexact Hk
  iintro HO
  iapply Hcont
  isplitl [HO]; · iexists W; iexact HO
  iexact HS

/-- What a transfer hands its sender back. -/
theorem payload_send (c : Dev nD) (e : Fin 16) :
    (sM.view.loc (c : Thread nD τ) ↦[sM.view.set]{part e} (sent m c : Buf (Elt F) ((c : Thread nD τ).loc cc0_scratch1)) : sProp 𝕄)
      ⊢ (plan (F := F) m).payload (sendCell c e) 0 0 := by
  rw [plan_payload m c (kSend e)]
  exact BI.Entails.refl _
theorem duty_send (c : Dev nD) {e : Fin 16} (h : e ≠ 0) : (0 : Fin 16) ∈ (plan (F := F) m).duties (sendCell c e) 0 := by
  rw [plan_duties m c (kSend e), dutiesAt_send h]; exact Finset.mem_singleton_self _
theorem duty_recv (c : Dev nD) {e : Fin 16} (h : e ≠ 0) : (0 : Fin 16) ∈ (plan (F := F) m).duties (recvCell c e) 0 := by
  rw [plan_duties m c (kRecv e), dutiesAt_recv h]; exact Finset.mem_singleton_self _

/-- The transfer of the two rows to the device `n` places on. -/
theorem send_step (c : Dev nD) (n : ℕ) (d : Dev nD) (t : Memref sig .tc .vmem S2x256 .f32) (sq rq : DmaSem sig)
    {hsc : t.view.ref.isScScratch = false} {hsrc : (sM : Memref sig .tc .vmem S2x256 .f32).view.WordExact} {hdst : t.view.WordExact}
    {hsem : DmaTarget.Typed .vmem (.dma rq) (.remote (Dev.tc d : Thread nD τ) t (.dma sq) hsc)}
    {α : Type} {Q : α → sProp 𝕄} {k : PUnit → Prog (TpuEff nD τ sig (Elt F) Λ₀ .tc) α} :
    iprop(known m K ∗ sending m c n ∗ ⌜∃ hn : n < 16, 1 ≤ n ∧ d = peer c ⟨n, hn⟩ ∧ t = slotM ⟨n, hn⟩ ∧ sq = sendS ⟨n, hn⟩ ∧ rq = recvS ⟨n, hn⟩⌝)
      ⊢ iprop((sending m c (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc d : Thread nD τ) t (.dma sq) hsc) (.dma rq) hsrc hdst hsem) k) Q) := by
  unfold sending debt
  iintro ⟨#Hk, ⟨⟨%W, HO⟩, HS, HC⟩, %hp⟩
  obtain ⟨hn, h1, rfl, rfl, rfl, rfl⟩ := hp
  ihave HS := (Entails.of_eq (bigSep_from n hn _)) $$ HS
  icases HS with ⟨⟨⟨Hts, Htr⟩, Hx, ⟨%f, Hs⟩⟩, HS⟩
  iintro Hcont
  unfold sentPts slotPts
  iapply (Rounds.wp_send_pointsTo 𝒱₀ EX (plan m) (c : Thread nD τ) none (c' := (peer c ⟨n, hn⟩ : Thread nD τ))
      (src := sM) (dst := slotM ⟨n, hn⟩) (sS := csem (kSend ⟨n, hn⟩)) (sem := csem (kRecv ⟨n, hn⟩))
      (κ₁ := K (c, kSend ⟨n, hn⟩)) (κ₂ := K (peer c ⟨n, hn⟩, kRecv ⟨n, hn⟩)) (r₁ := 0) (r₂ := 0) (d₁ := 0) (d₂ := 0)
      (fs := sent m c) (fd := f) (duty_send m c (ne_zero_of n hn h1)) (duty_recv m (peer c ⟨n, hn⟩) (ne_zero_of n hn h1))
      () () N (credit_slot ⟨n, hn⟩) (plan_amount m c (kSend ⟨n, hn⟩) 0 0) (plan_amount m (peer c ⟨n, hn⟩) (kRecv ⟨n, hn⟩) 0 0)
      (O₀ := oweRecv c n) (oweRecv c (n + 1)) (oweRecv_step c n hn) (W := W)
      (payload_send m c ⟨n, hn⟩) (payload_recv m c ⟨n, hn⟩ f)) $$ [Hx Hs HO Hts Htr]
  · isplitr; · iapply (known_inv m K (c, kSend ⟨n, hn⟩)); iexact Hk
    isplitr; · iapply (known_inv m K (peer c ⟨n, hn⟩, kRecv ⟨n, hn⟩)); iexact Hk
    isplitl [Hx]; · iexact Hx
    isplitl [Hs]; · iexact Hs
    isplitl [HO]; · iexact HO
    isplitl [Hts]; · iexact Hts
    isplitr; · iapply (known_reached m K (c, kSend ⟨n, hn⟩)); iexact Hk
    isplitl [Htr]; · iexact Htr
    iapply (known_reached m K (peer c ⟨n, hn⟩, kRecv ⟨n, hn⟩)); iexact Hk
  iintro ⟨Hc, HO⟩
  iapply Hcont
  isplitl [HO]; · iexists W; iexact HO
  isplitl [HS]; · iexact HS
  iapply (Entails.of_eq (bigSep_upto n hn h1 _).symm)
  isplitl [Hc] <;> iassumption

/-- The wait for the transfer of offset `n`, at its semaphore `κ n`. -/
theorem drain_step (κ : Fin 16 → Key) (hκ : ∀ e : Fin 16, e ≠ 0 → dutiesAt (κ e) = {0}) (hN : ∀ e, amountAt (κ e) = N)
    (c : Dev nD) (n : ℕ) (q : DmaSem sig) {s s' : Memref sig .tc .vmem S2x256 .f32}
    {hsrc : s.view.WordExact} {hdst : s'.view.WordExact} {α : Type} {Q : α → sProp 𝕄} {k : PUnit → Prog (TpuEff nD τ sig (Elt F) Λ₀ .tc) α} :
    iprop(known m K ∗ draining m κ c n ∗ ⌜∃ hn : n < 16, 1 ≤ n ∧ SemLoc.dma q = csem (κ ⟨n, hn⟩) ∧ s'.view.dmaCredit = N⌝)
      ⊢ iprop((draining m κ c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q s s' hsrc hdst) k) Q) := by
  unfold draining debt
  iintro ⟨#Hk, ⟨⟨%W, HO⟩, HS, HD⟩, %hp⟩
  obtain ⟨hn, h1, hq, hc⟩ := hp
  ihave HS := (Entails.of_eq (bigSep_from n hn _)) $$ HS
  icases HS with ⟨⟨Hc, Ha⟩, HS⟩
  iintro Hcont
  iapply (Rounds.wp_wait_rest_token 𝒱₀ EX (plan m) (c : Thread nD τ) none (κ := K (c, κ ⟨n, hn⟩)) (sm := csem (κ ⟨n, hn⟩)) (k' := N)
      (fun P => (wpE_waitDma2_eq 𝒱₀ (c : Thread nD τ) none Set.univ P).trans (by rw [hq, hc]))
      (Set.mem_univ _) () (O := 0) (W := W) (R := 0) (m := 0) (T := ∅)
      (by rw [Nat.zero_add]; exact ((plan_expect m c (κ ⟨n, hn⟩)).trans (by rw [hκ _ (ne_zero_of n hn h1), hN, Finset.card_singleton, Nat.one_mul])).symm))
    $$ [Hc HO Ha]
  · isplitr; · iapply (known_inv m K (c, κ ⟨n, hn⟩)); iexact Hk
    isplitl [Hc]; · iexact Hc
    isplitl [HO]; · iexact HO
    isplitr; · rw [MayWait_zero]; iempintro
    iexact Ha
  iintro ⟨HO, Ha, -, Hp⟩
  ihave Hp := (Entails.of_eq ((plan_rest m c (κ ⟨n, hn⟩)).trans (by rw [hκ _ (ne_zero_of n hn h1), bigSep_singleton]))) $$ Hp
  iapply Hcont
  isplitl [HO]; · iexists _; iexact HO
  isplitl [HS]; · iexact HS
  iapply (Entails.of_eq (bigSep_upto n hn h1 _).symm)
  isplitl [Hp Ha]
  · isplitl [Hp] <;> iassumption
  iexact HD

end Cert.Exchange

end
-- ==== Proof.Body.lean ====
/-
# The exchange's body

One device's run of the kernel, from what the launch hands it to its result.
-/
module

public import proofs.«01_k».proof.Proof.Steps
public import Idealize.ShloMosaic.Lib.Rounds.Family

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The tokens of the duties device `c` pays. -/
def payToks (c : Dev nD) : sProp 𝕄 :=
  iprop(dutyTok EX (copyCell c) 0 0
    ∗ (bigSep (from_ 1) fun e => dutyTok EX (barCell (peer c e)) 0 (opp e))
    ∗ (bigSep (from_ 1) fun e => dutyTok EX (sendCell c e) 0 0)
    ∗ bigSep (from_ 1) fun e => dutyTok EX (recvCell (peer c e) e) 0 0)

/-- The exchange's ghost state device `c` starts from: what everybody knows, its position at each of its semaphores, the
    tokens of the duties it pays. -/
def ghost (K : Dev nD × Key → ℕ) (c : Dev nD) : sProp 𝕄 :=
  iprop(known m K ∗ (bigSep Finset.univ fun k : Key => atPos EX (kcell (c, k)) 0 ∅ 0) ∗ payToks c)

/-- Its credit: fifteen barrier units, and a transfer's credit at each receive semaphore. -/
def credits (c : Dev nD) : sProp 𝕄 :=
  iprop(cred (tallyAt (barCell c) () 15) ∗ bigSep (from_ 1) fun e => cred (tallyAt (recvCell c e) () N))

/-- The argument's block, never written. -/
abbrev argPts (c : Dev nD) : sProp 𝕄 := ((c : Thread nD τ).loc main_arg0) ↦{fullShare} m ((c : Thread nD τ).loc main_arg0)
/-- A scratch buffer at some contents. -/
abbrev somePts (c : Dev nD) (b : Ref sig .tc) : sProp 𝕄 := iprop(∃ f : Buf (Elt F) ((c : Thread nD τ).loc b), ((c : Thread nD τ).loc b) ↦{fullShare} f)

def start (c : Dev nD) : sProp 𝕄 := iprop((∃ K, ghost m K c) ∗ credits c ∗ argPts m c)

def Φ₀ (c : Dev nD) : sProp 𝕄 := iprop(start m c ∗ somePts c cc0_scratch0 ∗ somePts c cc0_scratch1 ∗ somePts c cc0_scratch2)
/-- At the end: the argument as it was, the scratch buffers, and every semaphore's counter at zero. -/
def Φ₁ (c : Dev nD) : sProp 𝕄 :=
  iprop((argPts m c ∗ bigSep Finset.univ fun k : Key => semVal (kcell (c, k)) 0)
    ∗ somePts c cc0_scratch0 ∗ somePts c cc0_scratch1 ∗ somePts c cc0_scratch2)

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

variable (K : Dev nD × Key → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ credits c ∗ argPts m c) ∗ (somePts c cc0_scratch0 ∗ somePts c cc0_scratch1 ∗ somePts c cc0_scratch2)
    ∗ (dats m ρ 0 c).owesAt () t0_0.castSucc
    ∗ ∃ d, stg c cc0_stg0_0 ((dats m ρ 0 c).before (0 : Fin 1) t0_0 d))

def bodyPost (c : Dev nD) : sProp 𝕄 :=
  iprop(Φ₁ m c ∗ (dats m ρ 0 c).owesAt () t0_0.succ ∗ stg c cc0_stg0_0 (outAt m c))

/-! ## Splitting and joining the buffers -/

/-- The gathering buffer is its sixteen slots. -/
theorem slots_eq (c : Dev nD) (f : Buf (Elt F) ((c : Thread nD τ).loc cc0_scratch2)) :
    (((c : Thread nD τ).loc cc0_scratch2) ↦{fullShare} f : sProp 𝕄) = bigSep Finset.univ fun e : Fin 16 => slotPts c e f := by
  unfold slotPts
  refine Eq.trans ?_ (pointsTo_biUnion Finset.univ (ℓ := (c : Thread nD τ).loc cc0_scratch2) (fun e : Fin 16 => ((slotM e).view.set : Finset S16x2x256.Idx))
    (fun e _ e' _ h => slots_disjoint e e' h))
  exact congrArg (fun I => (((c : Thread nD τ).loc cc0_scratch2) ↦[I]{fullShare} f : sProp 𝕄)) slots_cover.symm

/-- Offsets matched with their opposites. -/
def flip : Fin 16 ≃ Fin 16 := ⟨opp, opp, opp_opp, opp_opp⟩

/-- A family over all offsets: the one at 0, and the rest. -/
theorem split_zero (Φ : Fin 16 → sProp 𝕄) : bigSep Finset.univ Φ = iprop(Φ 0 ∗ bigSep (from_ 1) Φ) := by
  rw [from_one]; exact bigSep_univ_at Φ 0

/-- The own slot is kept, every other is ready to be handed over. -/
theorem slots_give (c : Dev nD) (f : Buf (Elt F) ((c : Thread nD τ).loc cc0_scratch2)) :
    (((c : Thread nD τ).loc cc0_scratch2) ↦{fullShare} f : sProp 𝕄)
      ⊢ iprop(slotPts c 0 f ∗ bigSep (from_ 1) fun e => iprop(∃ f, slotPts c (opp e) f)) := by
  rw [slots_eq, bigSep_univ_equiv flip (fun e : Fin 16 => (slotPts c e f : sProp 𝕄)), split_zero]
  have one (e : Fin 16) : (slotPts c (opp e) f : sProp 𝕄) ⊢ iprop(∃ f, slotPts c (opp e) f) := by
    iintro H; iexists f; iexact H
  have rest : (bigSep (from_ 1) fun e => (slotPts c (flip e) f : sProp 𝕄)) ⊢ bigSep (from_ 1) fun e => iprop(∃ f, slotPts c (opp e) f) :=
    bigSep_mono fun e _ => one e
  iintro ⟨H0, H⟩
  isplitl [H0]; · iexact H0
  iapply rest; iexact H

/-- The slots, all arrived, are the gathering buffer again. -/
theorem slots_join (c : Dev nD) :
    iprop(slotPts c 0 (gathered m c) ∗ bigSep (from_ 1) fun e => slotPts c e (gathered m c))
      ⊢ (((c : Thread nD τ).loc cc0_scratch2) ↦{fullShare} (gathered m c : Buf (Elt F) ((c : Thread nD τ).loc cc0_scratch2)) : sProp 𝕄) := by
  rw [slots_eq, split_zero]

/-- The outgoing rows, a share of them per offset. -/
theorem sent_eq_parts (c : Dev nD) :
    (((c : Thread nD τ).loc cc0_scratch1) ↦{fullShare} (sent m c : Buf (Elt F) ((c : Thread nD τ).loc cc0_scratch1)) : sProp 𝕄)
      = iprop(sentPts m c (part 0) ∗ bigSep (from_ 1) fun e => sentPts m c (part e)) := by
  rw [← split_zero (fun e => sentPts m c (part e))]
  unfold sentPts
  rw [show (sM : Memref sig .tc .vmem S2x256 .f32).view.set = Finset.univ from View.set_whole cc0_scratch1]
  exact ShareLeaves.pointsTo_leaves _ _ 4 fullShare

/-- The barrier's round: every other device's slot for this one. -/
theorem rest_bar (c : Dev nD) :
    bigSep ((plan (F := F) m).duties (barCell c) 0 \ ∅) (fun d => (plan (F := F) m).payload (barCell c) 0 d)
      = bigSep (from_ 1) fun e => iprop(∃ f, slotPts (peer c e) e f) := by
  rw [from_one]; exact plan_rest m c kBar
theorem expect_bar (c : Dev nD) : (plan (F := F) m).expect (barCell c) 0 = 15 :=
  (plan_expect m c kBar).trans (by decide)
theorem rest_copy (c : Dev nD) :
    bigSep ((plan (F := F) m).duties (copyCell c) 0 \ ∅) (fun d => (plan (F := F) m).payload (copyCell c) 0 d) = copyPay m c :=
  (plan_rest m c kCopy).trans bigSep_singleton
theorem expect_copy (c : Dev nD) : (plan (F := F) m).expect (copyCell c) 0 = NX :=
  (plan_expect m c kCopy).trans (Nat.one_mul _)

/-- The copied block and the argument, held whole. -/
theorem copyPay_eq (c : Dev nD) :
    copyPay m c = iprop((((c : Thread nD τ).loc cc0_scratch0) ↦{fullShare} (xin m c : Buf (Elt F) ((c : Thread nD τ).loc cc0_scratch0))) ∗ argPts m c) := by
  unfold copyPay
  rw [show (xM : Memref sig .tc .vmem S256x256 .f32).view.set = Finset.univ from View.set_whole cc0_scratch0,
    show (argM : Memref sig .tc .hbm S256x256 .f32).view.set = Finset.univ from View.set_whole main_arg0]

/-- The local copy's duty is paid with the block copied and the argument. -/
theorem payload_copy (c : Dev nD) (f : Buf (Elt F) ((c : Thread nD τ).loc cc0_scratch0)) :
    iprop((xM.view.loc (c : Thread nD τ) ↦[xM.view.set]{fullShare}
        xM.view.write (Elt F) f (argM.view.read (Elt F) (m ((c : Thread nD τ).loc main_arg0))) Finset.univ)
      ∗ (argM.view.loc (c : Thread nD τ) ↦[argM.view.set]{fullShare} m ((c : Thread nD τ).loc main_arg0)))
      ⊢ (plan (F := F) m).payload (copyCell c) 0 0 := by
  rw [plan_payload m c kCopy, copied]
  exact BI.Entails.refl _

/-- A device's positions, semaphore by semaphore. -/
theorem keys_split (Φ : Key → sProp 𝕄) :
    bigSep Finset.univ Φ = iprop(Φ kBar ∗ Φ kCopy ∗ (Φ (kSend 0) ∗ bigSep (from_ 1) fun e => Φ (kSend e))
      ∗ (Φ (kRecv 0) ∗ bigSep (from_ 1) fun e => Φ (kRecv e))) := by
  rw [← split_zero (fun e => Φ (kSend e)), ← split_zero (fun e => Φ (kRecv e)), bigSep_univ_sum, bigSep_univ_sum, bigSep_univ_sum,
    bigSep_univ_of_subsingleton (), bigSep_univ_of_subsingleton ()]
  rfl

/-- The round a semaphore is left at: the two of offset 0 are never used. -/
def endRound : Key → ℕ
  | .inl _ => 1
  | .inr (.inl _) => 1
  | .inr (.inr (.inl e)) => if e = 0 then 0 else 1
  | .inr (.inr (.inr e)) => if e = 0 then 0 else 1

/-- A semaphore left there has nothing more to come. -/
theorem endRound_done (c : Dev nD) (k : Key) (r : ℕ) (hr : endRound k ≤ r) : (plan (F := F) m).duties (kcell (c, k)) r = ∅ := by
  rcases Nat.eq_zero_or_pos r with rfl | h
  · rw [plan_duties]
    revert hr; revert k; decide
  · exact plan_later m _ r h

/-- All of a device's semaphores closed: their counters are at zero. -/
theorem close_all (c : Dev nD) :
    iprop(known m K ∗ bigSep Finset.univ fun k : Key => atPos EX (kcell (c, k)) (endRound k) ∅ 0)
      ⊢ (|={Set.univ}=> bigSep Finset.univ fun k : Key => semVal (kcell (c, k)) 0 : sProp 𝕄) := by
  refine BI.Entails.trans ?_ (Rounds.cells_close EX (plan (F := F) m) Finset.univ (fun k : Key => kcell (c, k)) (fun k => K (c, k))
    (fun k _ => Set.mem_univ _) (fun k _ h => h) endRound (fun k _ => endRound_done m c k))
  rw [bigSep_sep']
  exact sep_mono_left (BI.bigSep_intro_persistent fun k _ => known_inv m K (c, k))

/-! ## The own rows stored -/

/-- A whole buffer's view has the elements it is asked for. -/
theorem setOn_whole_sub (b : Ref sig .tc) (M : Finset b.ty.shape.Idx) : (Memref.whole b : Memref sig .tc _ _ _).view.setOn M ⊆ M := by
  intro i hi
  obtain ⟨x, hx, rfl⟩ := Finset.mem_map.mp hi
  exact hx
theorem own_load0 : (gM : Memref sig .tc .vmem S16x2x256 .f32).view.setOn ownR0.set ⊆ (slotM 0).view.set := by
  rw [slot_set]; exact (setOn_whole_sub cc0_scratch2 _).trans ownR0_sub
theorem own_load1 : (gM : Memref sig .tc .vmem S16x2x256 .f32).view.setOn ownR1.set ⊆ (slotM 0).view.set := by
  rw [slot_set]; exact (setOn_whole_sub cc0_scratch2 _).trans ownR1_sub
theorem own_store0 : (gM.access ownR0 : View sig .tc _ _ _).setOn Finset.univ ⊆ (slotM 0).view.set := by
  rw [slot_set]; exact (View.set_slice_whole cc0_scratch2 ownR0).subset.trans ownR0_sub
theorem own_store1 : (gM.access ownR1 : View sig .tc _ _ _).setOn Finset.univ ⊆ (slotM 0).view.set := by
  rw [slot_set]; exact (View.set_slice_whole cc0_scratch2 ownR1).subset.trans ownR1_sub

/-- The outgoing buffer after its two stores. -/
theorem sent_made (c : Dev nD) (f : Buf (Elt F) ((c : Thread nD τ).loc cc0_scratch1)) :
    (((c : Thread nD τ).loc cc0_scratch1) ↦{fullShare} ((sM.access rowR1 : View sig .tc _ _ _).write (Elt F)
        ((sM.access rowR0 : View sig .tc _ _ _).write (Elt F) f (k0_pay3 (xin m c)) Finset.univ) (k0_pay4 (wordOf c) (xin m c)) Finset.univ
        : Buf (Elt F) ((c : Thread nD τ).loc cc0_scratch1)) : sProp 𝕄)
      ⊢ ((c : Thread nD τ).loc cc0_scratch1) ↦{fullShare} (sent m c : Buf (Elt F) ((c : Thread nD τ).loc cc0_scratch1)) := by
  rw [puts_sent, sent_eq]

/-- The own slot after its two. -/
theorem own_made (c : Dev nD) (f : Buf (Elt F) ((c : Thread nD τ).loc cc0_scratch2)) :
    (((slotM 0).view.loc (c : Thread nD τ)) ↦[(slotM 0).view.set]{fullShare} ((gM.access ownR1 : View sig .tc _ _ _).write (Elt F)
        ((gM.access ownR0 : View sig .tc _ _ _).write (Elt F) f (k0_pay5 (xin m c)) Finset.univ) (k0_pay6 (wordOf c) (xin m c)) Finset.univ
        : Buf (Elt F) ((c : Thread nD τ).loc cc0_scratch2)) : sProp 𝕄)
      ⊢ slotPts c 0 (gathered m c) := by
  unfold slotPts
  exact Entails.of_eq (pointsTo_congr fun i hi => own_stores m c f i hi)

/-- The result's buffer after its two stores. -/
theorem out_made (c : Dev nD) (f : Buf (Elt F) ((c : Thread nD τ).loc cc0_stg0_0)) :
    (View.loc (c : Thread nD τ) (outM.access rowR1) ↦{fullShare} ((outM.access rowR1 : View sig .tc _ _ _).write (Elt F)
        ((outM.access rowR0 : View sig .tc _ _ _).write (Elt F) f (k0_pay9 (gM.view.readAt (Elt F) colR0.toLoadRect (gathered m c))) Finset.univ)
        (k0_pay10 (gM.view.readAt (Elt F) colR0.toLoadRect (gathered m c)) (gM.view.readAt (Elt F) colR1.toLoadRect (gathered m c))) Finset.univ) : sProp 𝕄)
      ⊢ ((c : Thread nD τ).loc cc0_stg0_0) ↦{fullShare} (outAt m c : Buf (Elt F) ((c : Thread nD τ).loc cc0_stg0_0)) := by
  rw [puts_out]; exact BI.Entails.refl _

/-! ## The loops' first and last states -/

theorem nothing_done (Φ : Fin 16 → sProp 𝕄) : (iprop(emp) : sProp 𝕄) ⊢ bigSep (upto 1) Φ := by
  rw [upto_one, bigSep_empty]; exact BI.Entails.refl _
theorem all_done (Φ : Fin 16 → sProp 𝕄) : bigSep (upto 16) Φ = bigSep (from_ 1) Φ := by rw [upto_end, from_one]

/-- The transfers may begin: tokens, shares and slots at hand. -/
theorem sending_intro (c : Dev nD) (W : Waits sig Unit) :
    iprop(owes (c : Thread nD τ) (oweRecv c 1 + 0) W ∗ (bigSep (from_ 1) fun e => dutyTok EX (sendCell c e) 0 0)
        ∗ (bigSep (from_ 1) fun e => dutyTok EX (recvCell (peer c e) e) 0 0) ∗ (bigSep (from_ 1) fun e => sentPts m c (part e))
        ∗ bigSep (from_ 1) fun e => iprop(∃ f, slotPts (peer c e) e f))
      ⊢ sending m c 1 := by
  unfold sending debt
  rw [add_zero, bigSep_sep', bigSep_sep', bigSep_sep']
  iintro ⟨HO, H1, H2, H3, H4⟩
  isplitl [HO]; · iexists W; iexact HO
  isplitl
  · isplitl [H1 H2]
    · isplitl [H1] <;> iassumption
    isplitl [H3] <;> iassumption
  iapply (nothing_done (F := F) _); iempintro

/-- The waits on the semaphores `κ` may begin: credits and positions at hand. -/
theorem draining_intro (κ : Fin 16 → Key) (c : Dev nD) :
    iprop(debt c 0 ∗ (bigSep (from_ 1) fun e => cred (tallyAt (kcell (c, κ e)) () N)) ∗ bigSep (from_ 1) fun e => atPos EX (kcell (c, κ e)) 0 ∅ 0)
      ⊢ draining m κ c 1 := by
  unfold draining
  rw [bigSep_sep']
  iintro ⟨HO, H1, H2⟩
  isplitl [HO]; · iexact HO
  isplitl
  · isplitl [H1] <;> iassumption
  iapply (nothing_done (F := F) _); iempintro

/-- When they are over: what was waited for, and the positions past the round. -/
theorem draining_elim (κ : Fin 16 → Key) (hκ : ∀ e : Fin 16, e ≠ 0 → endRound (κ e) = 1) (c : Dev nD) :
    draining m κ c 16 ⊢ iprop(debt c 0 ∗ (bigSep (from_ 1) fun e => payAt m c 0 (κ e))
      ∗ bigSep (from_ 1) fun e => atPos EX (kcell (c, κ e)) (endRound (κ e)) ∅ 0) := by
  unfold draining
  rw [all_done, bigSep_sep' (from_ 1) (fun e => payAt m c 0 (κ e)), bigSep_congr (s := from_ 1) (Φ := fun e => (atPos EX (kcell (c, κ e)) 1 ∅ 0 : sProp 𝕄))
    (Ψ := fun e => (atPos EX (kcell (c, κ e)) (endRound (κ e)) ∅ 0 : sProp 𝕄))
    (fun e he => by rw [hκ e (fun h => by rw [h, mem_from] at he; exact absurd he (by decide))])]
  iintro ⟨HO, -, H1, H2⟩
  isplitl [HO]; · iexact HO
  isplitl [H1] <;> iassumption

theorem endRound_send (e : Fin 16) (h : e ≠ 0) : endRound (kSend e) = 1 := if_neg h
theorem endRound_recv (e : Fin 16) (h : e ≠ 0) : endRound (kRecv e) = 1 := if_neg h

/-! ## The body -/

set_option maxHeartbeats 4000000 in
/-- The body, from `bodyPre`, one rule per instruction in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body argM (Memref.isWhole_whole _) outM (Memref.isWhole_whole _) xM (Memref.isWhole_whole _) sM (Memref.isWhole_whole _)
            gM (Memref.isWhole_whole _) cc0_scratch3 cc0_scratch4 cc0_scratch5) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel k0_part19_skel k0_part20_skel k0_part21_skel k0_part22_skel
  simp only [semSignalWord, semWaitWord, Prog.lift, Prog.bind_op, Prog.bind_ret, Prog.pure_eq_ret, wp_deviceId]
  unfold bodyPre ghost credits payToks
  iintro ⟨⟨⟨⟨#Hk, Hat, HtC, HtB, HtS, HtR⟩, ⟨HcB, HcR⟩, Harg⟩, ⟨⟨%fx, Hx⟩, ⟨%fs, Hs⟩, ⟨%fg, Hg⟩⟩, Ho, ⟨%d0, %g0, %hg0, Hout⟩⟩, Hpost⟩
  ihave Hat := (Entails.of_eq (keys_split _)) $$ Hat
  icases Hat with ⟨HaB, HaC, ⟨HaS0, HaS⟩, ⟨HaR0, HaR⟩⟩
  unfold Dat.owesAt Pipeline.owesWithin
  icases Ho with ⟨%W, %hW, HO⟩
  -- the slots, ready to be handed over; the fifteen signals
  ihave Hg := (slots_give c fg) $$ Hg
  icases Hg with ⟨Hg0, Hgs⟩
  ihave HS : signalling c 1 $$ [HO HtB Hgs]
  · unfold signalling debt
    isplitl [HO]; · iexists W; iexact HO
    iapply (Entails.of_eq (bigSep_sep' (from_ 1) (fun e => (dutyTok EX (barCell (peer c e)) 0 (opp e) : sProp 𝕄)) _).symm)
    isplitl [HtB] <;> iassumption
  iterate 15
    iapply (signal_step m K c _ _) $$ [HS]
    · isplitr; · iexact Hk
      isplitl; · iexact HS
      ipureintro; refine ⟨by decide, by decide, ?_⟩; clear * -; revert c; decide +kernel
    iintro HS
  unfold signalling debt
  icases HS with ⟨⟨%W1, HO⟩, -⟩
  ihave HO := (Entails.of_eq (congrArg (fun O => (owes (c : Thread nD τ) O W1 : sProp 𝕄))
    (show oweRecv c 1 + oweBar c 16 = oweRecv c 1 + 0 by rw [oweBar_end]))) $$ HO
  -- the local copy and its wait
  iapply (Rounds.wp_copy_pointsTo 𝒱₀ EX (plan m) (c : Thread nD τ) none (src := argM) (dst := xM) (sem := csem kCopy) (κ := K (c, kCopy)) (r := 0) (d := 0)
      (q := fullShare) (fs := m ((c : Thread nD τ).loc main_arg0)) (fd := fx)
      (by rw [plan_duties m c kCopy]; exact Finset.mem_singleton_self _) () NX rfl (plan_amount m c kCopy 0 0) (payload_copy m c fx)) $$ [Harg Hx HtC]
  · isplitr; · iapply (known_inv m K (c, kCopy)); iexact Hk
    isplitl [Harg]; · rw [show (argM : Memref sig .tc .hbm S256x256 .f32).view.set = Finset.univ from View.set_whole main_arg0]; iexact Harg
    isplitl [Hx]; · rw [show (xM : Memref sig .tc .vmem S256x256 .f32).view.set = Finset.univ from View.set_whole cc0_scratch0]; iexact Hx
    isplitl [HtC]; · iexact HtC
    iapply (known_reached m K (c, kCopy)); iexact Hk
  iintro HcC
  iapply (Rounds.wp_wait_rest_token 𝒱₀ EX (plan m) (c : Thread nD τ) none (κ := K (c, kCopy)) (sm := csem kCopy)
      (wpE_waitDma2_eq 𝒱₀ (c : Thread nD τ) none Set.univ) (Set.mem_univ _) () (O := oweRecv c 1 + 0) (W := W1) (R := 0) (m := 0) (T := ∅)
      (by rw [Nat.zero_add]; exact (expect_copy m c).symm)) $$ [HcC HO HaC]
  · isplitr; · iapply (known_inv m K (c, kCopy)); iexact Hk
    isplitl [HcC]; · iexact HcC
    isplitl [HO]; · iexact HO
    isplitr
    · rw [← oweBar_end c]; iapply (mayWait_low c copyS (by decide) 1 16); iapply (known_lev m K); iexact Hk
    iexact HaC
  iintro ⟨HO, HaC, -, Hp⟩
  ihave Hp := (Entails.of_eq ((rest_copy m c).trans (copyPay_eq m c))) $$ Hp
  icases Hp with ⟨Hx, Harg⟩
  -- the block's two rows, into the outgoing buffer and the own slot
  iapply (wp_load 𝒱₀ (c : Thread nD τ) none Set.univ (m := xM) (Finset.subset_univ _)) $$ Hx; iintro Hx
  rw [load_x]
  iapply (wp_load 𝒱₀ (c : Thread nD τ) none Set.univ (m := sM) (Finset.subset_univ _)) $$ Hs; iintro Hs
  iapply (wp_store 𝒱₀ (c : Thread nD τ) none Set.univ (m := sM) (r := rowR0) (Mk := Finset.univ) (Finset.subset_univ _)) $$ Hs; iintro Hs
  iapply (wp_load 𝒱₀ (c : Thread nD τ) none Set.univ (m := sM) (Finset.subset_univ _)) $$ Hs; iintro Hs
  iapply (wp_store 𝒱₀ (c : Thread nD τ) none Set.univ (m := sM) (r := rowR1) (Mk := Finset.univ) (Finset.subset_univ _)) $$ Hs; iintro Hs
  unfold slotPts
  iapply (wp_load 𝒱₀ (c : Thread nD τ) none Set.univ (m := gM) (own_load0)) $$ Hg0; iintro Hg0
  iapply (wp_store 𝒱₀ (c : Thread nD τ) none Set.univ (m := gM) (r := ownR0) (Mk := Finset.univ) (own_store0)) $$ Hg0; iintro Hg0
  iapply (wp_load 𝒱₀ (c : Thread nD τ) none Set.univ (m := gM) (own_load1)) $$ Hg0; iintro Hg0
  iapply (wp_store 𝒱₀ (c : Thread nD τ) none Set.univ (m := gM) (r := ownR1) (Mk := Finset.univ) (own_store1)) $$ Hg0; iintro Hg0
  ihave Hs := (sent_made m c fs) $$ Hs
  ihave Hs := (Entails.of_eq (sent_eq_parts m c)) $$ Hs
  icases Hs with ⟨Hs0, Hs⟩
  ihave Hg0 := (own_made m c fg) $$ Hg0
  -- the barrier: every other device's slot comes with it
  iapply (Rounds.wp_wait_rest_token 𝒱₀ EX (plan m) (c : Thread nD τ) none (κ := K (c, kBar)) (sm := csem kBar)
      (wpE_semWait_eq 𝒱₀ (c : Thread nD τ) none Set.univ) (Set.mem_univ _) () (O := oweRecv c 1 + 0) (W := insert (csem kCopy, ()) W1) (R := 0) (m := 0) (T := ∅)
      (by rw [Nat.zero_add]; exact (expect_bar m c).symm)) $$ [HcB HO HaB]
  · isplitr; · iapply (known_inv m K (c, kBar)); iexact Hk
    isplitl [HcB]; · iexact HcB
    isplitl [HO]; · iexact HO
    isplitr
    · rw [add_zero]; iapply (mayWait_bar c 1); iapply (known_lev m K); iexact Hk
    iexact HaB
  iintro ⟨HO, HaB, -, Hp⟩
  ihave Hp := (Entails.of_eq (rest_bar m c)) $$ Hp
  -- the fifteen transfers
  ihave HS := (sending_intro m c _) $$ [HO HtS HtR Hs Hp]
  · isplitl [HO]; · iexact HO
    isplitl [HtS]; · iexact HtS
    isplitl [HtR]; · iexact HtR
    isplitl [Hs] <;> iassumption
  iterate 15
    iapply (send_step m K c _ _ _ _ _) $$ [HS]
    · isplitr; · iexact Hk
      isplitl; · iexact HS
      ipureintro; refine ⟨by decide, by decide, ?_, rfl, rfl, rfl⟩; clear * -; revert c; decide +kernel
    iintro HS
  unfold sending
  icases HS with ⟨HO, -, HcS⟩
  ihave HO := (Entails.of_eq (congrArg (fun O => (debt c O : sProp 𝕄)) (oweRecv_end c))) $$ HO
  ihave HcS := (Entails.of_eq (all_done (F := F) (fun e => cred (tallyAt (sendCell c e) () N)))) $$ HcS
  -- the fifteen arrivals
  ihave HS := (draining_intro m kRecv c) $$ [HO HcR HaR]
  · isplitl [HO]; · iexact HO
    isplitl [HcR] <;> iassumption
  iterate 15
    iapply (drain_step m K kRecv (fun _ h => dutiesAt_recv h) (fun _ => rfl) c _ _) $$ [HS]
    · isplitr; · iexact Hk
      isplitl; · iexact HS
      ipureintro; exact ⟨by decide, by decide, rfl, rfl⟩
    iintro HS
  ihave HS := (draining_elim m kRecv endRound_recv c) $$ HS
  icases HS with ⟨HO, Hgs, HaR⟩
  ihave Hg := (slots_join m c) $$ [Hg0 Hgs]
  · isplitl [Hg0]; · iexact Hg0
    iexact Hgs
  -- the result
  iapply (wp_load 𝒱₀ (c : Thread nD τ) none Set.univ (m := gM) (Finset.subset_univ _)) $$ Hg; iintro Hg
  iapply (wp_load 𝒱₀ (c : Thread nD τ) none Set.univ (m := gM) (Finset.subset_univ _)) $$ Hg; iintro Hg
  iapply (wp_load 𝒱₀ (c : Thread nD τ) none Set.univ (m := outM) (Finset.subset_univ _)) $$ Hout; iintro Hout
  iapply (wp_store 𝒱₀ (c : Thread nD τ) none Set.univ (m := outM) (r := rowR0) (Mk := Finset.univ) (Finset.subset_univ _)) $$ Hout; iintro Hout
  iapply (wp_load 𝒱₀ (c : Thread nD τ) none Set.univ (m := outM) (Finset.subset_univ _)) $$ Hout; iintro Hout
  iapply (wp_store 𝒱₀ (c : Thread nD τ) none Set.univ (m := outM) (r := rowR1) (Mk := Finset.univ) (Finset.subset_univ _)) $$ Hout; iintro Hout
  ihave Hout := (out_made m c g0) $$ Hout
  -- the fifteen transfers over on this side: the outgoing rows whole again
  ihave HS := (draining_intro m kSend c) $$ [HO HcS HaS]
  · isplitl [HO]; · iexact HO
    isplitl [HcS] <;> iassumption
  iterate 15
    iapply (drain_step m K kSend (fun _ h => dutiesAt_send h) (fun _ => rfl) c _ _) $$ [HS]
    · isplitr; · iexact Hk
      isplitl; · iexact HS
      ipureintro; exact ⟨by decide, by decide, rfl, rfl⟩
    iintro HS
  ihave HS := (draining_elim m kSend endRound_send c) $$ HS
  icases HS with ⟨HO, Hs, HaS⟩
  ihave Hs := (Entails.of_eq (sent_eq_parts m c).symm) $$ [Hs0 Hs]
  · isplitl [Hs0]; · iexact Hs0
    iexact Hs
  -- every semaphore closed
  imod (close_all m K c) $$ [HaB HaC HaS0 HaS HaR0 HaR] with Hz
  · isplitr; · iexact Hk
    iapply (Entails.of_eq (keys_split _).symm)
    isplitl [HaB]; · iexact HaB
    isplitl [HaC]; · iexact HaC
    isplitl [HaS0 HaS]
    · isplitl [HaS0]; · iexact HaS0
      iexact HaS
    isplitl [HaR0]; · iexact HaR0
    iexact HaR
  rw [wp_ret]; imodintro
  iapply Hpost
  unfold bodyPost Φ₁ Dat.owesAt Pipeline.owesWithin debt
  rw [show (dats m ρ 0 c).owed t0_0.succ = 0 from rfl]
  icases HO with ⟨%W2, HO⟩
  isplitl [Harg Hz Hx Hs Hg]
  · isplitl [Harg Hz]
    · isplitl [Harg] <;> iassumption
    isplitl [Hx]; · iexists _; iexact Hx
    isplitl [Hs]; · iexists _; iexact Hs
    iexists _; iexact Hg
  isplitl [HO]
  · iexists W2
    isplitr; · ipureintro; exact fun _ _ => Or.inl trivial
    iexact HO
  iexists _; isplitr; · (ipureintro; rfl)
  iexact Hout

def bodyPre' (c : Dev nD) : sProp 𝕄 :=
  iprop(Φ₀ m c ∗ (dats m ρ 0 c).owesAt () t0_0.castSucc ∗ ∃ d, stg c cc0_stg0_0 ((dats m ρ 0 c).before (0 : Fin 1) t0_0 d))

/-- The library's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body argM (Memref.isWhole_whole _) outM (Memref.isWhole_whole _) xM (Memref.isWhole_whole _) sM (Memref.isWhole_whole _)
      gM (Memref.isWhole_whole _) cc0_scratch3 cc0_scratch4 cc0_scratch5) (fun _ => bodyPost m ρ c)
  unfold bodyPre' Φ₀ start
  iintro ⟨⟨⟨⟨%K, Hg⟩, Hrest⟩, Hscr⟩, Ho, Hout⟩
  iapply (sound_body m ρ K c fun _ => bodyPost m ρ c)
  unfold bodyPre
  isplitr []
  · isplitl [Hg Hrest]
    · isplitl [Hg] <;> iassumption
    isplitl [Hscr]; · iexact Hscr
    isplitl [Ho] <;> iassumption
  · iintro H; iexact H

end Cert.Exchange

end
-- ==== Proof.Launch.lean ====
/-
# The launch, and the whole run

The exchange's ghost state is dealt out once for all sixteen devices: the token of a duty goes to the device that pays
it. With it the body's proof gives the run of the whole program: it ends, the argument is as it was, the result is
`outAt`, and every semaphore's counter is zero.
-/
module

public import proofs.«01_k».proof.Proof.Body
public import Idealize.ShloMosaic.Lib.Pipeline.CollectiveSegs
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

/-! ## The tokens as minted -/

/-- A device's own duties: the local copy's, then per offset the barrier's, the send's and the receive's. -/
abbrev Duty : Type := Unit ⊕ (Fin 16 ⊕ (Fin 16 ⊕ Fin 16))

/-- A duty's semaphore and its name there. The barrier's duty of offset `e` is named by the opposite offset. -/
def dutyAt : Duty → Key × Fin 16
  | .inl _ => (kCopy, 0)
  | .inr (.inl e) => (kBar, opp e)
  | .inr (.inr (.inl e)) => (kSend e, 0)
  | .inr (.inr (.inr e)) => (kRecv e, 0)
/-- Which duty that is. -/
def dutyOf : Key × Fin 16 → Duty
  | (.inl _, d) => .inr (.inl (opp d))
  | (.inr (.inl _), _) => .inl ()
  | (.inr (.inr (.inl e)), _) => .inr (.inr (.inl e))
  | (.inr (.inr (.inr e)), _) => .inr (.inr (.inr e))
theorem dutyOf_dutyAt (j : Duty) : dutyOf (dutyAt j) = j := by
  rcases j with _ | e | e | e
  · rfl
  · show (.inr (.inl (opp (opp e))) : Duty) = _; rw [opp_opp]
  · rfl
  · rfl

def tokOf (cj : Dev nD × Duty) : GSem nD τ sig × ℕ × Fin 16 := (kcell (cj.1, (dutyAt cj.2).1), 0, (dutyAt cj.2).2)
theorem tokOf_injective : Function.Injective tokOf := by
  rintro ⟨c, j⟩ ⟨c', j'⟩ h
  have h1 := kcell_injective (congrArg Prod.fst h)
  have h2 : (dutyAt j).2 = (dutyAt j').2 := congrArg (fun x : GSem nD τ sig × ℕ × Fin 16 => x.2.2) h
  have h3 : dutyAt j = dutyAt j' := Prod.ext (congrArg Prod.snd h1) h2
  rw [show c = c' from congrArg Prod.fst h1, ← dutyOf_dutyAt j, h3, dutyOf_dutyAt]

def cells : Finset (GSem nD τ sig) := Finset.univ.map ⟨kcell, kcell_injective⟩
def tokens : Finset (GSem nD τ sig × ℕ × Fin 16) := Finset.univ.map ⟨tokOf, tokOf_injective⟩

def u₀ : UU := (initOf (Pipeline.cells cfgs cellOf_inj) (Pipeline.launchToks cfgs cellOf_inj), initOf cells tokens)

/-- The tokens of the duties of device `c`'s own semaphores. -/
def toks (c : Dev nD) : sProp 𝕄 := bigSep Finset.univ fun j : Duty => dutyTok EX (kcell (c, (dutyAt j).1)) 0 (dutyAt j).2

/-- What the launch deals device `c`. -/
def G (c : Dev nD) : sProp 𝕄 :=
  iprop((bigSep Finset.univ fun k : Key => roundState EX (plan m) (kcell (c, k)) 0)
    ∗ (bigSep Finset.univ fun k : Key => iprop(atPos EX (kcell (c, k)) 0 ∅ 0 ∗ reached EX (kcell (c, k)) 0)) ∗ toks c)

/-- What everybody knows before the levels are told. -/
def records (K : Dev nD × Key → ℕ) : sProp 𝕄 :=
  iprop((bigSep Finset.univ fun ck => cellInv EX (plan (F := F) m) (K ck) (kcell ck))
    ∗ bigSep Finset.univ fun ck : Dev nD × Key => (reached EX (kcell ck) 0 : sProp 𝕄))

instance records_persistent (K : Dev nD × Key → ℕ) : BI.Persistent (records (F := F) m K) := by unfold records; infer_instance

/-- What is device `c`'s alone: its positions and the tokens of the duties it pays. -/
def own (c : Dev nD) : sProp 𝕄 := iprop((bigSep Finset.univ fun k : Key => atPos EX (kcell (c, k)) 0 ∅ 0) ∗ payToks c)

/-- What the global step makes of it all. -/
def G' (c : Dev nD) : sProp 𝕄 := iprop(∃ K, records m K ∗ own c)

theorem deal : BI.own (EX (initOf cells tokens)) ⊢ (|==> bigSep Finset.univ (G m) : sProp 𝕄) := by
  have hX (Φ : GSem nD τ sig → sProp 𝕄) : bigSep cells Φ = bigSep Finset.univ fun c : Dev nD => bigSep Finset.univ fun k : Key => Φ (kcell (c, k)) := by
    unfold cells; rw [bigSep_map, bigSep_univ_prod]; rfl
  have hT : bigSep tokens (fun x => (dutyTok EX x.1 x.2.1 x.2.2 : sProp 𝕄)) = bigSep Finset.univ fun c : Dev nD => toks c := by
    unfold tokens; rw [bigSep_map, bigSep_univ_prod]; rfl
  iintro HX
  imod (Rounds.fund EX (plan m) cells tokens) $$ HX with ⟨Hst, Hr, Hat, Htok⟩
  imodintro
  ihave Hst := (Entails.of_eq (hX fun g => roundState EX (plan m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at launch -/

/-- The barrier's semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- With the kernel's own, it is all the exchange uses. -/
theorem sems0_eq (c : Dev nD) :
    (bigSep Finset.univ fun k : Key => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, bigSep_univ_of_subsingleton ()]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (plan m) κ (kcell (c, k))))
          ∗ (bigSep Finset.univ fun k : Key => iprop(atPos EX (kcell (c, k)) 0 ∅ 0 ∗ reached EX (kcell (c, k)) 0)) ∗ toks c) := by
  have open_ : iprop((bigSep Finset.univ fun k : Key => semVal (kcell (c, k)) 0) ∗ bigSep Finset.univ fun k : Key => roundState EX (plan m) (kcell (c, k)) 0)
      ⊢ (|={Set.univ}=> bigSep Finset.univ fun k => iprop(∃ κ : ℕ, cellInv EX (plan m) κ (kcell (c, k))) : sProp 𝕄) := by
    rw [← bigSep_sep']
    exact (bigSep_mono fun k _ => (Rounds.body_intro EX (plan m) (kcell (c, k))).trans inv_alloc).trans (bigSep_fupd _ _)
  unfold G
  iintro ⟨Hos, Hus, Hst, Hat, Htok⟩
  imod open_ $$ [Hos Hus Hst] with Hinv
  · isplitl [Hos Hus]
    · iapply (Entails.of_eq (sems0_eq (F := F) c).symm)
      isplitl [Hus] <;> iassumption
    iexact Hst
  imodintro
  isplitl [Hinv]; · iexact Hinv
  isplitl [Hat]; · iexact Hat
  iexact Htok

/-! ## The tokens dealt around -/

/-- A family over devices and offsets, renumbered: at offset `e` the device `e` places on. -/
theorem deal_around (Φ : Dev nD → Fin 16 → sProp 𝕄) :
    (bigSep Finset.univ fun c => bigSep Finset.univ (Φ c)) = bigSep Finset.univ fun c => bigSep Finset.univ fun e => Φ (peer c e) e := by
  rw [bigSep_univ_comm, bigSep_univ_comm (fun (c : Dev nD) (e : Fin 16) => Φ (peer c e) e)]
  exact bigSep_congr fun e _ => bigSep_univ_equiv (around e) (fun c => Φ c e)

theorem drop_zero (Φ : Fin 16 → sProp 𝕄) : bigSep Finset.univ Φ ⊢ bigSep (from_ 1) Φ := by
  rw [split_zero]; iintro ⟨-, H⟩; iexact H

theorem toks_around : (bigSep Finset.univ fun c : Dev nD => (toks c : sProp 𝕄)) ⊢ bigSep Finset.univ fun c : Dev nD => payToks c := by
  have h1 (c : Dev nD) : (toks c : sProp 𝕄) = iprop(dutyTok EX (copyCell c) 0 0 ∗ (bigSep Finset.univ fun e => dutyTok EX (barCell c) 0 (opp e))
      ∗ (bigSep Finset.univ fun e => dutyTok EX (sendCell c e) 0 0) ∗ bigSep Finset.univ fun e => dutyTok EX (recvCell c e) 0 0) := by
    unfold toks; rw [bigSep_univ_sum, bigSep_univ_sum, bigSep_univ_sum, bigSep_univ_of_subsingleton ()]; rfl
  have h2 (c : Dev nD) : iprop(dutyTok EX (copyCell c) 0 0 ∗ (bigSep Finset.univ fun e => dutyTok EX (barCell (peer c e)) 0 (opp e))
      ∗ (bigSep Finset.univ fun e => dutyTok EX (sendCell c e) 0 0) ∗ bigSep Finset.univ fun e => dutyTok EX (recvCell (peer c e) e) 0 0)
      ⊢ (payToks c : sProp 𝕄) := by
    unfold payToks
    iintro ⟨H1, H2, H3, H4⟩
    isplitl [H1]; · iexact H1
    isplitl [H2]; · iapply (drop_zero (F := F) _); iexact H2
    isplitl [H3]; · iapply (drop_zero (F := F) _); iexact H3
    iapply (drop_zero (F := F) _); iexact H4
  rw [bigSep_congr fun c _ => h1 c, bigSep_sep', bigSep_sep', bigSep_sep',
    deal_around (fun (c : Dev nD) e => (dutyTok EX (barCell c) 0 (opp e) : sProp 𝕄)),
    deal_around (fun (c : Dev nD) e => (dutyTok EX (recvCell c e) 0 0 : sProp 𝕄)), ← bigSep_sep', ← bigSep_sep', ← bigSep_sep']
  exact bigSep_mono fun c _ => h2 c

theorem share_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  have h2 : iprop((bigSep Finset.univ fun _ : Dev nD => R) ∗ bigSep Finset.univ Φ) ⊢ bigSep Finset.univ Ψ := by
    rw [← bigSep_sep']; exact bigSep_mono fun c _ => h c
  iintro ⟨HR, H⟩
  iapply h2
  isplitl [HR]; · iapply (BI.bigSep_of_persistent Finset.univ R); iexact HR
  iexact H

theorem regroup :
    (bigSep Finset.univ fun c : Dev nD => iprop((bigSep Finset.univ fun k => iprop(∃ κ : ℕ, cellInv EX (plan m) κ (kcell (c, k))))
          ∗ (bigSep Finset.univ fun k : Key => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Key => iprop(∃ κ : ℕ, cellInv EX (plan m) κ (kcell ck))),
    bigSep_congr (s := Finset.univ) (fun (c : Dev nD) _ => bigSep_sep' Finset.univ (fun k : Key => (atPos EX (kcell (c, k)) 0 ∅ 0 : sProp 𝕄)) (fun k => reached EX (kcell (c, k)) 0)),
    bigSep_sep', ← bigSep_univ_prod (fun ck : Dev nD × Key => (reached EX (kcell ck) 0 : sProp 𝕄))]
  iintro ⟨HI, ⟨Hat, #HR⟩, Htok⟩
  ihave HK := (BI.bigSep_exists_pi Finset.univ (fun (ck : Dev nD × Key) (κ : ℕ) => (cellInv EX (plan m) κ (kcell ck) : sProp 𝕄))) $$ HI
  icases HK with ⟨%K, #HI⟩
  ihave Htk := (toks_around (F := F)) $$ Htok
  have mine (c : Dev nD) : iprop(records m K ∗ own c) ⊢ G' m c := by
    unfold G'; iintro H; iexists K; iexact H
  iapply (share_records (R := records m K) mine)
  isplitr
  · unfold records; isplitl; · iexact HI
    iexact HR
  · unfold own
    iapply (Entails.of_eq (bigSep_sep' Finset.univ (fun c : Dev nD => bigSep Finset.univ fun k : Key => (atPos EX (kcell (c, k)) 0 ∅ 0 : sProp 𝕄)) payToks).symm)
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What all devices together owe a semaphore, when each owes `n` at the semaphore `κ e` of the device `e` places on. -/
theorem owed_sum (κ : Fin 16 → Key) (n : ℕ) (c : Dev nD) (k : Key) :
    ∑ d : Dev nD, (∑ e ∈ from_ 1, tallyAt (kcell (peer d e, κ e)) () n : CellTallies nD τ sig Unit) (kcell (c, k)) ()
      = ∑ e ∈ from_ 1, if κ e = k then n else 0 := by
  rw [Finset.sum_congr rfl fun d _ => show (∑ e ∈ from_ 1, tallyAt (kcell (peer d e, κ e)) () n : CellTallies nD τ sig Unit) (kcell (c, k)) ()
      = ∑ e ∈ from_ 1, if kcell (c, k) = kcell (peer d e, κ e) ∧ () = () then n else 0 by
        rw [Finset.sum_apply, Finsupp.finset_sum_apply]; exact Finset.sum_congr rfl fun e _ => tallyAt_apply _ _ _ _ _, Finset.sum_comm]
  refine Finset.sum_congr rfl fun e _ => ?_
  by_cases h : κ e = k
  · rw [if_pos h, Fintype.sum_eq_single (back c e)]
    · rw [peer_back, h, if_pos ⟨rfl, rfl⟩]
    · intro d hd
      refine if_neg fun h' => hd ?_
      rw [show c = peer d e from congrArg Prod.fst (kcell_injective h'.1), back_peer]
  · rw [if_neg h]
    exact Finset.sum_eq_zero fun d _ => if_neg fun h' => h (congrArg Prod.snd (kcell_injective h'.1)).symm

theorem owed_all (c : Dev nD) (k : Key) :
    ∑ d : Dev nD, O₀ d (kcell (c, k)) () = (∑ e ∈ from_ 1, if kRecv e = k then N else 0) + ∑ e ∈ from_ 1, if kBar = k then 1 else 0 := by
  rw [← owed_sum kRecv N c k, ← owed_sum (fun _ => kBar) 1 c k, ← Finset.sum_add_distrib]
  rfl

theorem launch_at (c : Dev nD) (k : Key) (n : ℕ) (h : (∑ e ∈ from_ 1, if kRecv e = k then N else 0) + (∑ e ∈ from_ 1, if kBar = k then 1 else 0) = n) :
    tallyOn (kcell (c, k)) (launchCredit (Pipeline.owing O₀) 0 (kcell (c, k))) = (tallyAt (kcell (c, k)) () n : CellTallies nD τ sig Unit) := by
  unfold tallyAt; refine congrArg _ (Finsupp.ext fun u => ?_); cases u
  rw [Pipeline.launchCredit_owing, Finsupp.single_eq_same, owed_all, h]

theorem launch_bar (c : Dev nD) :
    tallyOn (barCell c) (launchCredit (Pipeline.owing O₀) 0 (barCell c)) = (tallyAt (barCell c) () 15 : CellTallies nD τ sig Unit) :=
  launch_at c kBar 15 (by
    rw [Finset.sum_congr rfl fun e _ => if_neg (show ¬ kRecv e = kBar from nofun), Finset.sum_congr rfl fun e _ => if_pos rfl,
      Finset.sum_const_zero, Finset.sum_const]; decide)

theorem launch_recv (c : Dev nD) (e : Fin 16) (he : e ∈ from_ 1) :
    tallyOn (recvCell c e) (launchCredit (Pipeline.owing O₀) 0 (recvCell c e)) = (tallyAt (recvCell c e) () N : CellTallies nD τ sig Unit) :=
  launch_at c (kRecv e) N (by
    rw [Finset.sum_congr rfl fun e' _ => if_neg (show ¬ kBar = kRecv e from nofun), Finset.sum_const_zero, Nat.add_zero,
      Finset.sum_eq_single e (fun e' _ hne => if_neg fun h => hne (Sum.inr.inj (Sum.inr.inj (Sum.inr.inj h)))) (fun h => absurd he h), if_pos rfl])

theorem creds (c : Dev nD) : (Pipeline.launchCred O₀ c : sProp 𝕄) ⊢ credits c := by
  have h1 : (Pipeline.launchCred O₀ c : sProp 𝕄)
      ⊢ bigSep Finset.univ fun k : Key => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]; exact BI.Entails.refl _
  have h2 : (bigSep (from_ 1) fun e => (cred (tallyOn (recvCell c e) (launchCredit (Pipeline.owing O₀) 0 (recvCell c e))) : sProp 𝕄))
      = bigSep (from_ 1) fun e => cred (tallyAt (recvCell c e) () N) := bigSep_congr fun e he => by rw [launch_recv c e he]
  unfold credits
  iintro H
  ihave H := h1 $$ H
  ihave H := (Entails.of_eq (keys_split _)) $$ H
  icases H with ⟨HB, -, -, ⟨-, HR⟩⟩
  isplitl [HB]; · iapply (Entails.of_eq (congrArg (fun T => (cred T : sProp 𝕄)) (launch_bar c))); iexact HB
  iapply (Entails.of_eq h2); iexact HR

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show cfg0.spec = spec0 from rfl, unscopedRest0_eq]
  unfold start G' ghost known own records
  iintro ⟨Harg, #Hlev, Hcr, -, ⟨%K, ⟨#HI, #HR⟩, Hat, Htok⟩⟩
  ihave Hc := (creds (F := F) c) $$ Hcr
  imodintro
  isplitl
  · isplitl [Hat Htok]
    · iexists K
      isplitr
      · isplitr; · iexact HI
        isplitr; · iexact HR
        iexact Hlev
      isplitl [Hat] <;> iassumption
    isplitl [Hc]; · iexact Hc
    iexact Harg
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀
  iintro ⟨Hs, -, Hr⟩
  isplitl [Hs] <;> iassumption

theorem phi1_exit (c : Dev nD) :
    (dats m ρ 0 c).Φ (Fin.last cfg0.N) ⊢ iprop((argPts m c ∗ unscopedSems0 c) ∗ Pipeline.ownSems0 osem c ∗ Pipeline.scopedRest cfg0.spec c) := by
  rw [show (dats m ρ 0 c).Φ (Fin.last cfg0.N) = Φ₁ m c from rfl, show cfg0.spec = spec0 from rfl, scopedRest0_eq]
  unfold Φ₁
  rw [sems0_eq]
  iintro ⟨⟨Ha, Hu, Ho⟩, Hr⟩
  isplitl [Ha Hu]
  · isplitl [Ha] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have hq : lvAt (keyOf (.dma ((cfg0.win w).sem s))) = 0 := by revert w s; decide
    rcases t with ⟨_ | _, ht⟩
    · exact mayWait_low c _ hq 1 1
    · have h := mayWait_low (F := F) c _ hq 16 16
      rw [oweRecv_end, oweBar_end, add_zero] at h
      exact h

/-! ## The run -/

def finalA (c : Dev nD) (w : Fin cfg0.W) : Buf (Elt F) ((cfg0.win w).arr.view.loc (c : Thread nD τ)) := (dats m ρ 0 c).arrAt w cfg0.N

/-- What a device's holdings at the end say of the memory: the argument is as it was, the unscoped counters are zero. -/
theorem held_end (c : Dev nD) (s' : Phys nD τ sig (Elt F)) :
    (iprop((argPts m c ∗ unscopedSems0 c) ∗ emp ∗ SI s') : sProp 𝕄) ⊢ |={Set.univ}=> iprop(⌜s'.mem.mem ((c : Thread nD τ).loc main_arg0) = m ((c : Thread nD τ).loc main_arg0)
      ∧ ∀ sm : SemLoc sig, sm.isScoped .tc = false → s'.mem.sem ((c.tc : Thread nD τ), sm) = 0⌝ ∗ SI s') := by
  iintro ⟨⟨Ha, Hu⟩, -, HSI⟩
  icombine HSI Ha gives %h
  imod (Pipeline.unscopedSems0_read (X := unscopedSems0 c) (c := c) fupd_intro s') $$ [Hu HSI] with ⟨%h2, HSI⟩
  · isplitl [Hu] <;> iassumption
  imodintro
  isplitr; · ipureintro; exact ⟨funext fun i => h i (Finset.mem_univ i), h2⟩
  iexact HSI

/-- What a run ends with. -/
def Ends (r : PUnit × MemSt nD τ sig (Elt F)) : Prop :=
  (∀ c : Dev nD, r.2.mem ((c : Thread nD τ).loc main_v1) = (finalA m ρ c (0 : Fin 1)) ∧ r.2.mem ((c : Thread nD τ).loc main_arg0) = m ((c : Thread nD τ).loc main_arg0))
    ∧ r.2.sem = fun _ => 0

/-- From any memory with zero counters every weakly fair execution of the program on the sixteen devices ends, the
    argument as it was, the result array at the value computed, every counter at zero. -/
theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => iprop(argPts m c ∗ unscopedSems0 c)) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := held_end m)
    (hQ := fun _ h hs => ⟨fun c => ⟨(h c).1 0, (h c).2.2.1⟩, sem_eq_zero hs fun c => (h c).2.2.2⟩)

/-- The result array the run leaves is the staging buffer's contents. -/
theorem final_out (c : Dev nD) : finalA m ρ c (0 : Fin 1) = outAt m c := by
  unfold finalA
  refine (dats m ρ 0 c).arrAt_eq_of_after_last 0 t0_0 (by decide +kernel) _ fun j => ?_
  blk_simp
  rfl

end Cert.Exchange

end
-- ==== Proof.Argmax.lean ====
/- The mathematics of the answer: a family of extended reals over `Fin n` has one first place where it is greatest, and
   each of the ways in which the kernel and the reference look for that place finds it. -/
module

public import Idealize.ShloMosaic.PureOps.Ideal
public import Idealize.ShloMosaic.PureOps.Reduce
public import Idealize.ShloMosaic.PureOps.Ideal.Laws

@[expose] public section

noncomputable section

namespace Cert.Exchange

open Idealize.ShloMosaic

/-- `a` is the first place where `v` is greatest. -/
structure First {n : ℕ} (v : Fin n → EReal) (a : Fin n) : Prop where
  top : ∀ r, v r ≤ v a
  least : ∀ r, v r = v a → a ≤ r

/-- There is such a place. -/
theorem exists_first {n : ℕ} (hn : 0 < n) (v : Fin n → EReal) : ∃ a, First v a := by
  haveI : Nonempty (Fin n) := ⟨⟨0, hn⟩⟩
  obtain ⟨b, -, hb⟩ := Finset.exists_max_image (Finset.univ : Finset (Fin n)) v Finset.univ_nonempty
  obtain ⟨a, ha, hl⟩ := Finset.exists_min_image (Finset.univ.filter fun r => v r = v b) id ⟨b, by simp⟩
  have hab : v a = v b := by simpa using ha
  exact ⟨a, fun r => hab ▸ hb r (Finset.mem_univ r), fun r hr => hl r (by simpa using hr.trans hab)⟩

/-- The maximum of the family is its value there. -/
theorem First.fold_max {n : ℕ} {v : Fin n → EReal} {a : Fin n} (h : First v a) :
    (Finset.univ : Finset (Fin n)).fold max ⊥ v = v a :=
  le_antisymm ((Finset.fold_max_le _).mpr ⟨bot_le, fun r _ => h.top r⟩)
    ((Finset.le_fold_max _).mpr (.inr ⟨a, Finset.mem_univ a, le_rfl⟩))

/-- The signed minimum of two words that are not negative is the lesser as a number. -/
theorem minsi_cases {x y : BitVec 32} (hx : x.toNat < 2 ^ 31) (hy : y.toNat < 2 ^ 31) :
    (IntOp.minsi x y = x ∧ x.toNat ≤ y.toNat) ∨ (IntOp.minsi x y = y ∧ y.toNat ≤ x.toNat) := by
  have e : x.slt y = decide (x.toNat < y.toNat) := by
    rw [BitVec.slt, BitVec.toInt_eq_toNat_of_lt (by omega), BitVec.toInt_eq_toNat_of_lt (by omega)]
    simp
  unfold IntOp.minsi
  rw [e]
  by_cases hlt : x.toNat < y.toNat
  · exact .inl ⟨by simp [hlt], hlt.le⟩
  · exact .inr ⟨by simp [hlt], by omega⟩

/-- A signed minimum over words that are not negative is no more than each of them, and is one of them. -/
theorem fold_minsi {ι : Type} [DecidableEq ι] (s : Finset ι) (w : ι → BitVec 32) (z : BitVec 32) (hz : z.toNat < 2 ^ 31)
    (hw : ∀ r, (w r).toNat < 2 ^ 31) :
    (s.fold IntOp.minsi z w).toNat ≤ z.toNat ∧ (∀ r ∈ s, (s.fold IntOp.minsi z w).toNat ≤ (w r).toNat)
      ∧ (s.fold IntOp.minsi z w = z ∨ ∃ r ∈ s, s.fold IntOp.minsi z w = w r) := by
  induction s using Finset.induction_on with
  | empty => simp
  | insert a s ha ih =>
    obtain ⟨h1, h2, h3⟩ := ih
    rw [Finset.fold_insert ha]
    rcases minsi_cases (hw a) (lt_of_le_of_lt h1 hz) with ⟨e, hle⟩ | ⟨e, hle⟩ <;> rw [e]
    · refine ⟨hle.trans h1, fun r hr => ?_, .inr ⟨a, Finset.mem_insert_self a s, rfl⟩⟩
      rcases Finset.mem_insert.mp hr with rfl | hr
      · exact le_rfl
      · exact hle.trans (h2 r hr)
    · refine ⟨h1, fun r hr => ?_, h3.imp id fun ⟨r, hr, e⟩ => ⟨r, Finset.mem_insert_of_mem hr, e⟩⟩
      rcases Finset.mem_insert.mp hr with rfl | hr
      · exact hle
      · exact h2 r hr

/-- Comparing for equality and selecting on the outcome is a case distinction on equality. -/
theorem select_oeq {α : Type} (x y : EReal) (s t : α) :
    Scalar.select (FloatOps.cmpf (F := Ideal) (φ := .f32) .oeq x y) s t = if x = y then s else t := by
  rw [Ideal.cmpf_def]
  by_cases h : x = y <;> simp [Scalar.select, Ideal.cmp, h]

/-- The least row of a block of 256 holding the block's greatest value, as a word: the other rows marked 256. -/
theorem First.fold_minsi {v : Fin 256 → EReal} {a : Fin 256} (h : First v a) :
    (Finset.univ : Finset (Fin 256)).fold IntOp.minsi 2147483647#32
        (fun r => if v r = v a then BitVec.ofNat 32 r.val else 256#32) = BitVec.ofNat 32 a.val := by
  have hval (r : Fin 256) : (BitVec.ofNat 32 r.val).toNat = r.val := by
    rw [BitVec.toNat_ofNat]; exact Nat.mod_eq_of_lt (by omega)
  obtain ⟨h1, h2, h3⟩ := Cert.Exchange.fold_minsi (Finset.univ : Finset (Fin 256))
    (fun r => if v r = v a then BitVec.ofNat 32 r.val else 256#32) 2147483647#32 (by decide) (fun r => by
      split
      · rw [hval]; omega
      · decide)
  have ha := h2 a (Finset.mem_univ a)
  simp only [if_true, hval] at ha
  generalize (Finset.univ : Finset (Fin 256)).fold IntOp.minsi 2147483647#32
    (fun r => if v r = v a then BitVec.ofNat 32 r.val else 256#32) = b at *
  have hlt := a.isLt
  rcases h3 with rfl | ⟨r, -, rfl⟩
  · exact absurd ha (by norm_num; omega)
  · by_cases e : v r = v a
    · have := h.least r e
      simp only [e, if_true, hval] at ha ⊢
      rw [le_antisymm ha this]
    · simp only [e, if_false] at ha
      exact absurd ha (by norm_num)

/-- One step of the reference's search: the pair with the greater value, on equal values the lesser word. -/
def argStep (p q : EReal × BitVec 32) : EReal × BitVec 32 :=
  (if q.1 < p.1 then p.1 else q.1, if q.1 < p.1 ∨ (p.1 = q.1 ∧ p.2.slt q.2) then p.2 else q.2)

/-- What such a search holds after the places of which `P` is true: the greatest value, and the least of the places that
    attain it, or what it began with. -/
structure Found {n : ℕ} (v : Fin n → EReal) (P : Fin n → Prop) (p : EReal × BitVec 32) : Prop where
  top : ∀ r, P r → v r ≤ p.1
  place : (p.1 = ⊥ ∧ p.2 = 0#32) ∨ ∃ r, P r ∧ v r = p.1 ∧ p.2 = BitVec.ofNat 32 r.val
  least : ∀ r, P r → v r = p.1 → p.2.toNat ≤ r.val

theorem word_val {n : ℕ} (hn : n < 2 ^ 31) (r : Fin n) : (BitVec.ofNat 32 r.val).toNat = r.val := by
  rw [BitVec.toNat_ofNat]; exact Nat.mod_eq_of_lt (by omega)

/-- One more place. -/
theorem Found.step {n : ℕ} (hn : n < 2 ^ 31) {v : Fin n → EReal} {P : Fin n → Prop} {p : EReal × BitVec 32}
    (h : Found v P p) (r : Fin n) : Found v (fun x => P x ∨ x = r) (argStep p (v r, BitVec.ofNat 32 r.val)) := by
  have hr := word_val hn r
  have hsm : p.2.toNat < 2 ^ 31 := by
    rcases h.place with ⟨-, e⟩ | ⟨x, -, -, e⟩
    · rw [e]; decide
    · rw [e, word_val hn]; omega
  have hslt : p.2.slt (BitVec.ofNat 32 r.val) = decide (p.2.toNat < r.val) := by
    rw [BitVec.slt, BitVec.toInt_eq_toNat_of_lt (by omega), BitVec.toInt_eq_toNat_of_lt (by omega), hr]
    simp
  unfold argStep
  simp only [hslt, decide_eq_true_eq]
  rcases lt_trichotomy (v r) p.1 with hlt | heq | hgt
  · simp only [hlt, if_true, true_or]
    refine ⟨fun x hx => ?_, h.place.imp id fun ⟨x, hx, e⟩ => ⟨x, .inl hx, e⟩, fun x hx e => ?_⟩
    · rcases hx with hx | rfl
      · exact h.top x hx
      · exact hlt.le
    · rcases hx with hx | rfl
      · exact h.least x hx e
      · exact absurd e hlt.ne
  · simp only [heq, lt_irrefl, if_false, true_and, false_or]
    by_cases hl : p.2.toNat < r.val
    · simp only [hl, if_true]
      refine ⟨fun x hx => ?_, h.place.imp id fun ⟨x, hx, e⟩ => ⟨x, .inl hx, e⟩, fun x hx e => ?_⟩
      · rcases hx with hx | rfl
        · exact h.top x hx
        · exact heq.le
      · rcases hx with hx | rfl
        · exact h.least x hx e
        · exact hl.le
    · simp only [hl, if_false]
      refine ⟨fun x hx => ?_, .inr ⟨r, .inr rfl, heq, rfl⟩, fun x hx e => ?_⟩
      · rcases hx with hx | rfl
        · exact h.top x hx
        · exact heq.le
      · rw [hr]
        rcases hx with hx | rfl
        · exact (not_lt.mp hl).trans (h.least x hx e)
        · exact le_rfl
  · simp only [not_lt.mpr hgt.le, hgt.ne, if_false, false_and, or_self]
    refine ⟨fun x hx => ?_, .inr ⟨r, .inr rfl, rfl, rfl⟩, fun x hx e => ?_⟩
    · rcases hx with hx | rfl
      · exact (h.top x hx).trans hgt.le
      · exact le_rfl
    · rw [hr]
      rcases hx with hx | rfl
      · exact absurd e ((h.top x hx).trans_lt hgt).ne
      · exact le_rfl

/-- A whole list of places. -/
theorem Found.foldl {n : ℕ} (hn : n < 2 ^ 31) {v : Fin n → EReal} (l : List (Fin n)) :
    ∀ {P : Fin n → Prop} {p : EReal × BitVec 32}, Found v P p →
      Found v (fun x => P x ∨ x ∈ l) (l.foldl (fun p r => argStep p (v r, BitVec.ofNat 32 r.val)) p) := by
  induction l with
  | nil => intro P p h; simpa using h
  | cons r l ih =>
    intro P p h
    have := ih (h.step hn r)
    simpa only [List.foldl_cons, List.mem_cons, or_assoc] using this

/-- The search over a list that holds every place, from the least value and the first word, ends at the first place where
    the family is greatest. -/
theorem First.search {n : ℕ} (hn : n < 2 ^ 31) {v : Fin n → EReal} {a : Fin n} (h : First v a) (l : List (Fin n))
    (hl : ∀ r, r ∈ l) :
    l.foldl (fun p r => argStep p (v r, BitVec.ofNat 32 r.val)) (⊥, 0#32) = (v a, BitVec.ofNat 32 a.val) := by
  have hF : Found v (fun x => False ∨ x ∈ l) (l.foldl (fun p r => argStep p (v r, BitVec.ofNat 32 r.val)) (⊥, 0#32)) :=
    Found.foldl hn l ⟨fun _ h => h.elim, .inl ⟨rfl, rfl⟩, fun _ h => h.elim⟩
  generalize l.foldl (fun p r => argStep p (v r, BitVec.ofNat 32 r.val)) (⊥, 0#32) = q at hF ⊢
  obtain ⟨x, w⟩ := q
  have htop := hF.top a (.inr (hl a))
  rcases hF.place with ⟨e, e'⟩ | ⟨r, -, e, e'⟩
  · simp only at e e' htop
    subst e; subst e'
    have hb : v a = ⊥ := le_bot_iff.mp htop
    have ha : a.val ≤ 0 := h.least ⟨0, by have := a.isLt; omega⟩ ((le_bot_iff.mp ((h.top _).trans htop)).trans hb.symm)
    rw [hb, Nat.le_zero.mp ha]
  · simp only at e e' htop
    have hx : v a = x := le_antisymm htop (e ▸ h.top r)
    have h1 : a.val ≤ r.val := h.least r (e.trans hx.symm)
    have h2 : r.val ≤ a.val := by
      have := hF.least a (.inr (hl a)) hx
      simpa only [e', word_val hn] using this
    rw [hx, e', le_antisymm h1 h2]

/-- Row `r` of block `d` among the 4096. -/
def place (d : Fin 16) (r : Fin 256) : Fin 4096 := ⟨256 * d.val + r.val, by omega⟩

/-- The greatest of the blocks' maxima is the maximum of the whole, in whatever order the blocks come. -/
theorem First.blocks_max {X : Fin 4096 → EReal} {A : Fin 4096} (h : First X A) {a : Fin 16 → Fin 256}
    (ha : ∀ d, First (fun r => X (place d r)) (a d)) (b : Fin 16 → Fin 16) (hb : Function.Surjective b) :
    (Finset.univ : Finset (Fin 16)).fold max ⊥ (fun e => X (place (b e) (a (b e)))) = X A := by
  obtain ⟨e, he⟩ := hb ⟨A.val / 256, by omega⟩
  have hA : place (b e) ⟨A.val % 256, by omega⟩ = A := Fin.ext (by rw [he]; simp only [place]; omega)
  refine le_antisymm ((Finset.fold_max_le _).mpr ⟨bot_le, fun d _ => h.top _⟩)
    ((Finset.le_fold_max _).mpr (.inr ⟨e, Finset.mem_univ e, ?_⟩))
  have := (ha (b e)).top ⟨A.val % 256, by omega⟩
  simpa only [hA] using this

/-- The least of the places the blocks that attain the maximum sent, the other blocks marked with a number that no place
    reaches, is the first place of the whole. -/
theorem First.blocks_min {X : Fin 4096 → EReal} {A : Fin 4096} (h : First X A) {a : Fin 16 → Fin 256}
    (ha : ∀ d, First (fun r => X (place d r)) (a d)) (b : Fin 16 → Fin 16) (hb : Function.Surjective b)
    (big : EReal) (hbig : ((4095 : ℝ) : EReal) ≤ big) :
    (Finset.univ : Finset (Fin 16)).fold min ⊤
        (fun e => if X (place (b e) (a (b e))) = X A then (((place (b e) (a (b e))).val : ℝ) : EReal) else big)
      = ((A.val : ℝ) : EReal) := by
  obtain ⟨e, he⟩ := hb ⟨A.val / 256, by omega⟩
  have hA : place (b e) ⟨A.val % 256, by omega⟩ = A := Fin.ext (by rw [he]; simp only [place]; omega)
  have hcast {x y : ℕ} (hxy : x ≤ y) : ((x : ℝ) : EReal) ≤ ((y : ℝ) : EReal) := EReal.coe_le_coe_iff.mpr (Nat.cast_le.mpr hxy)
  refine le_antisymm ((Finset.fold_min_le _).mpr (.inr ⟨e, Finset.mem_univ e, ?_⟩))
    ((Finset.le_fold_min _).mpr ⟨le_top, fun d _ => ?_⟩)
  · have htop := (ha (b e)).top ⟨A.val % 256, by omega⟩
    simp only [hA] at htop
    have heq : X (place (b e) (a (b e))) = X A := le_antisymm (h.top _) htop
    rw [if_pos heq]
    have hl : (a (b e)).val ≤ A.val % 256 := (ha (b e)).least ⟨A.val % 256, by omega⟩ (by simp only [hA]; exact heq.symm)
    refine hcast ?_
    have := congrArg Fin.val hA
    simp only [place] at this ⊢
    omega
  · split
    · rename_i hd
      exact hcast (h.least _ hd)
    · exact le_trans (le_trans (hcast (show A.val ≤ 4095 by omega)) (by norm_num)) hbig

end Cert.Exchange

end
-- ==== Proof.KernelValue.lean ====
/- What the kernel computes, over the extended reals: each row of its result read at a column. -/
module

public import proofs.«01_k».proof.Proof.Contents
public import proofs.«01_k».proof.Proof.Argmax

@[expose] public section

noncomputable section

namespace Cert.Exchange

open Cert.KernelIdeal Cert.KernelIdeal.Gen

open Idealize.ShloMosaic
open Idealize.ShloMosaic.TcCoe
open Idealize.ShloMosaic.ValueIdx
open Facts₀

variable (m : (ℓ : Loc nD τ sig) → Buf (Elt Ideal) ℓ)

theorem neg_inf : (FloatOps.ofBits (F := Ideal) .f32 0xFF800000#32 : EReal) = ⊥ := by
  show Ideal.ofBits .f32 0xFF800000#32 = ⊥
  simp [Ideal.ofBits, Ideal.ieee]

theorem pos_inf : (FloatOps.ofBits (F := Ideal) .f32 0x7F800000#32 : EReal) = ⊤ := by
  show Ideal.ofBits .f32 0x7F800000#32 = ⊤
  simp [Ideal.ofBits, Ideal.ieee]

/-- The number that marks a block without the maximum: beyond every row. -/
theorem big_le : ((4095 : ℝ) : EReal) ≤ (Scalar.ofBits (F := Ideal) .f32 0x4E6E6B28#32 : EReal) := by
  have : (Scalar.ofBits (F := Ideal) .f32 0x4E6E6B28#32 : EReal) = ((1000000000 : ℝ) : EReal) := by
    show Ideal.ofBits .f32 0x4E6E6B28#32 = _
    simp [Ideal.ofBits, Ideal.ieee, -EReal.coe_mul]; norm_num
  rw [this]
  exact EReal.coe_le_coe_iff.mpr (by norm_num)

/-- Over column `j` of a matrix, the element of row `k`. -/
theorem lift_row {n b : ℕ} (h : (⟨2, ![n, b]⟩ : Shape).Reduces [0] (⟨1, ![b]⟩ : Shape)) (j : Fin b) (k : Fin n) :
    h.lift (ix1 j) k = ix2 k j := by
  funext c
  match c with
  | ⟨0, _⟩ => rfl
  | ⟨1, _⟩ => rfl

/-- The reductions over the rows of a matrix, read at a column: its maximum, -/
theorem col_max {n b : ℕ} (x : FVec Ideal (⟨2, ![n, b]⟩ : Shape) .f32) (h : (⟨2, ![n, b]⟩ : Shape).Reduces [0] (⟨1, ![b]⟩ : Shape))
    (hφ : FKind.Formats .f32) (hacc : 0xFF800000#32 = FKind.maximumf.neutral .f32 hφ) (j : Fin b) :
    multiReduction .maximumf [0] (⟨1, ![b]⟩ : Shape) x 0xFF800000#32 h hφ hacc (ix1 j)
      = (Finset.univ : Finset (Fin n)).fold max (⊥ : EReal) fun k => x (ix2 k j) := by
  rw [Ideal.multiReduction_maximumf_single, neg_inf]
  exact congrArg (fun f => (Finset.univ : Finset (Fin n)).fold max (⊥ : EReal) f) (funext fun k => congrArg x (lift_row h j k))
/-- its minimum, -/
theorem col_min {n b : ℕ} (x : FVec Ideal (⟨2, ![n, b]⟩ : Shape) .f32) (h : (⟨2, ![n, b]⟩ : Shape).Reduces [0] (⟨1, ![b]⟩ : Shape))
    (hφ : FKind.Formats .f32) (hacc : 0x7F800000#32 = FKind.minimumf.neutral .f32 hφ) (j : Fin b) :
    multiReduction .minimumf [0] (⟨1, ![b]⟩ : Shape) x 0x7F800000#32 h hφ hacc (ix1 j)
      = (Finset.univ : Finset (Fin n)).fold min (⊤ : EReal) fun k => x (ix2 k j) := by
  rw [multiReduction_minimumf_eq_fold, Shape.Reduces.fold_filter_drop_single, pos_inf]
  exact congrArg (fun f => (Finset.univ : Finset (Fin n)).fold min (⊤ : EReal) f) (funext fun k => congrArg x (lift_row h j k))
/-- and, of words, the signed minimum. -/
theorem col_minsi {n b : ℕ} (x : IVec (⟨2, ![n, b]⟩ : Shape) 32) (z : BitVec 32)
    (h : (⟨2, ![n, b]⟩ : Shape).Reduces [0] (⟨1, ![b]⟩ : Shape)) (hz : z = IKind.minsi.neutral) (j : Fin b) :
    multiReductionI .minsi [0] (⟨1, ![b]⟩ : Shape) x z h hz (ix1 j)
      = (Finset.univ : Finset (Fin n)).fold IntOp.minsi z fun k => x (ix2 k j) := by
  rw [multiReductionI_eq_fold, Shape.Reduces.fold_filter_drop_single]
  exact congrArg (fun f => (Finset.univ : Finset (Fin n)).fold IntOp.minsi z f) (funext fun k => congrArg x (lift_row h j k))

/-- A gathered row of every device, its unit axis dropped. -/
theorem drop_unit {α : Type} (x : S16x1x256.Idx → α) (h : S16x1x256.ShapeCasts S16x256) (e : Fin 16) (j : Fin 256) :
    shapeCast S16x256 x h (ix2 e j) = x (ix3 e (0 : Fin 1) j) :=
  shapeCast_apply x h _ _ (by
    rw [Shape.rowMajor_val_three, Shape.rowMajor_val_two]
    show (e.val * 1 + 0) * 256 + j.val = e.val * 256 + j.val
    omega)

/-- The maximum of a column of a block. -/
theorem pay1_apply (x : Vec Ideal S256x256 .f32) (j a : Fin 256) (h : First (fun r => x (ix2 r j)) a) :
    k0_pay1 x (ix1 j) = x (ix2 a j) := by
  unfold k0_pay1
  exact (col_max x _ _ _ j).trans h.fold_max

theorem pay3_apply (x : Vec Ideal S256x256 .f32) (j a : Fin 256) (h : First (fun r => x (ix2 r j)) a) :
    k0_pay3 x (ix2 (0 : Fin 1) j) = x (ix2 a j) := by
  unfold k0_pay3
  exact (shapeCast_a_1a_apply _ _ _ _).trans (pay1_apply x j a h)

/-- The word of a row of the whole matrix, read as a number. -/
theorem row_word (d : Dev nD) (a : Fin 256) :
    (FloatOps.sitofp (F := Ideal) .f32 (IntOp.addi (BitVec.ofNat 32 a.val) (Scalar.muli (wordOf d) 256#32)) : EReal)
      = (((place d a).val : ℝ) : EReal) := by
  have hd : d.val < 16 := d.isLt
  have e : IntOp.addi (BitVec.ofNat 32 a.val) (Scalar.muli (wordOf d) 256#32) = BitVec.ofNat 32 (place d a).val := by
    have hw : Scalar.muli (wordOf d) 256#32 = BitVec.ofNat 32 (256 * d.val) := by
      clear hd; revert d; decide +kernel
    rw [hw]
    show BitVec.ofNat 32 a.val + BitVec.ofNat 32 (256 * d.val) = _
    rw [← BitVec.ofNat_add]
    exact congrArg _ (Nat.add_comm _ _)
  rw [e]
  show (((BitVec.ofNat 32 (place d a).val).toInt : ℝ) : EReal) = _
  rw [BitVec.toInt_eq_toNat_of_lt (by rw [word_val (by norm_num)]; omega), word_val (by norm_num)]
  simp

/-- The row of the whole matrix at which a column of a block is first greatest. -/
theorem pay4_apply (d : Dev nD) (x : Vec Ideal S256x256 .f32) (j a : Fin 256) (h : First (fun r => x (ix2 r j)) a) :
    k0_pay4 (wordOf d) x (ix2 (0 : Fin 1) j) = (((place d a).val : ℝ) : EReal) := by
  unfold k0_pay4
  refine (shapeCast_a_1a_apply _ _ _ _).trans ?_
  unfold k0_pay2
  refine Eq.trans ?_ (row_word d a)
  refine congrArg (fun w => FloatOps.sitofp (F := Ideal) .f32 (IntOp.addi w (Scalar.muli (wordOf d) 256#32))) ?_
  refine (col_minsi _ _ _ _ j).trans (Eq.trans ?_ h.fold_minsi)
  refine congrArg (fun f => (Finset.univ : Finset (Fin 256)).fold IntOp.minsi 2147483647#32 f) (funext fun r => ?_)
  have hb : broadcastTo S256x256 (shapeCast S1x256 (k0_pay1 x) Gen.shapeCasts_S256_S1x256) Gen.broadcasts_S1x256_S256x256 (ix2 r j)
      = x (ix2 a j) := (broadcastTo_1b_ab_apply _ _ r j).trans ((shapeCast_a_1a_apply _ _ _ _).trans (pay1_apply x j a h))
  exact (select_oeq _ _ _ _).trans (by rw [hb, iota_single_apply]; rfl)

/-- What a device sends of a column: its block's maximum, and the row of the whole matrix it is first met at. -/
theorem sent_max (d : Dev nD) (j a : Fin 256) (h : First (fun r => xin m d (ix2 r j)) a) :
    sent m d (ix2 (0 : Fin 2) j) = xin m d (ix2 a j) := by
  unfold sent
  exact (if_pos rfl).trans (pay3_apply (xin m d) j a h)
theorem sent_row (d : Dev nD) (j a : Fin 256) (h : First (fun r => xin m d (ix2 r j)) a) :
    sent m d (ix2 (1 : Fin 2) j) = (((place d a).val : ℝ) : EReal) := by
  unfold sent
  exact (if_neg (show ¬ (1 : Fin 2).val = 0 by decide)).trans (pay4_apply d (xin m d) j a h)

/-- A whole column, row by row, from the blocks. -/
def column (j : Fin 256) : Fin 4096 → EReal := fun i => xin m (⟨i.val / 256, by omega⟩ : Fin 16) (ix2 ⟨i.val % 256, by omega⟩ j)

theorem column_place (d : Dev nD) (j r : Fin 256) : column m j (place d r) = xin m d (ix2 r j) := by
  have hd : d.val < 16 := d.isLt
  have h1 : (⟨(place d r).val / 256, by omega⟩ : Fin 16) = d := Fin.ext (by simp only [place]; omega)
  have h2 : (⟨(place d r).val % 256, by omega⟩ : Fin 256) = r := Fin.ext (by simp only [place]; omega)
  show xin m ⟨(place d r).val / 256, _⟩ (ix2 ⟨(place d r).val % 256, _⟩ j) = _
  rw [h1, h2]

/-- The blocks arrive each once. -/
theorem back_surjective (c : Dev nD) : Function.Surjective (back c : Fin 16 → Fin 16) := fun d => by
  have hc : c.val < 16 := c.isLt
  refine ⟨⟨(c.val + (16 - d.val)) % 16, Nat.mod_lt _ (by decide)⟩, Fin.ext ?_⟩
  have hd : d.val < 16 := d.isLt
  simp only [back]
  omega

/-- The first row of the result: the column's maximum; and the second: the first row it is met at. -/
theorem out_rows (c : Dev nD) (j : Fin 256) (A : Fin 4096) (h : First (column m j) A) :
    outAt m c (ix2 (0 : Fin 2) j) = column m j A ∧ outAt m c (ix2 (1 : Fin 2) j) = ((A.val : ℝ) : EReal) := by
  choose a ha using fun d : Fin 16 => exists_first (by norm_num) (fun r : Fin 256 => xin m d (ix2 r j))
  have ha' (d : Fin 16) : First (fun r => column m j (place d r)) (a d) := by
    simpa only [column_place] using ha d
  have hv (e : Fin 16) : vals m c (ix3 e (0 : Fin 1) j) = column m j (place (back c e) (a (back c e))) := by
    rw [vals_apply, sent_max m _ j _ (ha _), column_place]
  have hi (e : Fin 16) : idxs m c (ix3 e (0 : Fin 1) j) = (((place (back c e) (a (back c e))).val : ℝ) : EReal) := by
    rw [idxs_apply, sent_row m _ j _ (ha _)]
  have h7 (e : Fin 16) : k0_pay7 (vals m c) (ix2 e j) = column m j (place (back c e) (a (back c e))) := by
    unfold k0_pay7
    exact (drop_unit _ _ e j).trans (hv e)
  have h8 : k0_pay8 (vals m c) (ix1 j) = column m j A := by
    unfold k0_pay8
    refine (col_max _ _ _ _ j).trans (Eq.trans ?_ (h.blocks_max ha' (back c) (back_surjective c)))
    exact congrArg (fun f => (Finset.univ : Finset (Fin 16)).fold max (⊥ : EReal) f) (funext h7)
  refine ⟨?_, ?_⟩
  · show k0_pay9 (vals m c) (ix2 (0 : Fin 1) j) = _
    unfold k0_pay9
    exact (shapeCast_a_1a_apply _ _ _ _).trans h8
  · show k0_pay10 (vals m c) (idxs m c) (ix2 (0 : Fin 1) j) = _
    unfold k0_pay10
    refine (shapeCast_a_1a_apply _ _ _ _).trans ?_
    refine (col_min _ _ _ _ j).trans (Eq.trans ?_ (h.blocks_min ha' (back c) (back_surjective c) _ big_le))
    refine congrArg (fun f => (Finset.univ : Finset (Fin 16)).fold min (⊤ : EReal) f) (funext fun e => ?_)
    have hb : broadcastTo S16x256 (shapeCast S1x256 (k0_pay8 (vals m c)) Gen.shapeCasts_S256_S1x256) Gen.broadcasts_S1x256_S16x256 (ix2 e j)
        = column m j A := (broadcastTo_1b_ab_apply _ _ e j).trans ((shapeCast_a_1a_apply _ _ _ _).trans h8)
    have hi' : shapeCast S16x256 (idxs m c) Gen.shapeCasts_S16x1x256_S16x256 (ix2 e j)
        = (((place (back c e) (a (back c e))).val : ℝ) : EReal) := (drop_unit _ _ e j).trans (hi e)
    exact (select_oeq _ _ _ _).trans (by rw [hb, h7, hi']; rfl)

end Cert.Exchange

end
-- ==== Proof.ReferenceValue.lean ====
/- What the reference computes, over the extended reals: each row of its result read at a column. -/
module

public import proofs.«01_k».proof.Defs
public import proofs.«01_k».proof.Proof.Gen.ReferenceIdeal
public import proofs.«01_k».proof.Proof.Argmax
public import Idealize.ShloMosaic.Lib.Claim
public import Idealize.ShloMosaic.Lib.ValueLayout
public import Idealize.ShloMosaic.Lib.Pipeline.Value
public import Idealize.ShloMosaic.Lib.Pointwise.SelectCore

@[expose] public section

noncomputable section

namespace Cert.Whole

open Cert.ReferenceIdeal

open Idealize.ShloMosaic hiding ix1 ix2
open Idealize.SL.Sem
open Idealize.ShloMosaic.ValueIdx (ix1 ix2)
open Cert.Exchange (First argStep word_val)
open Facts₀

theorem neg_inf : (FloatOps.ofBits (F := Ideal) .f32 0xFF800000#32 : EReal) = ⊥ := by
  show Ideal.ofBits .f32 0xFF800000#32 = ⊥
  simp [Ideal.ofBits, Ideal.ieee]

/-- The reference's result, of the whole matrix. -/
def refOut (x : FVec Ideal S4096x256 .f32) : FVec Ideal S2x256 .f32 :=
  concatenate S2x256 0
    [⟨S1x256, broadcastInDim S1x256 ![1] bcast_S256_S1x256_1
        (Host.reduce FloatOps.maximumf x (constant S_ .f32 0xFF800000#32) reducesTo_S4096x256_S256_d0 h_S_)⟩,
      ⟨S1x256, broadcastInDim S1x256 ![1] bcast_S256_S1x256_1
        (sitofp .f32 fun j => (Host.argReduce reducer_argmax_f32_i32 x (iotaInDim S4096x256 32 0) (constant S_ .f32 0xFF800000#32)
          (constantI S_ 32 0#32) reducesTo_S4096x256_S256_d0 h_S_ j).2)⟩]
    concatenates_S1x256_S1x256_S2x256_d0

/-- The reference's run: its result, and its argument as it was. -/
theorem run_reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5) = refOut (m ((c.tc : Thread nD τ).loc main_arg0))
        ∧ r.2.mem ((c.tc : Thread nD τ).loc main_arg0) = m ((c.tc : Thread nD τ).loc main_arg0)) := by
  hlo_run
  rfl

/-- The printed step of the search. -/
theorem reducer_eq (p q : EReal × BitVec 32) : reducer_argmax_f32_i32 (F := Ideal) p q = argStep p q := by
  unfold reducer_argmax_f32_i32 argStep
  simp only [Ideal.cmpf_def, Ideal.cmp]
  by_cases h1 : q.1 < p.1 <;> by_cases h2 : p.1 = q.1 <;> by_cases h3 : p.2.slt q.2 <;>
    simp [h1, h2, h3, IntOp.ori, IntOp.andi, IntOp.cmpi, Scalar.select]

/-- The search down column `j` visits every row of it. -/
theorem fiber_eq (x : FVec Ideal S4096x256 .f32) (h : S4096x256.ReducesTo [0] S256) (j : Fin 256) :
    ∃ l : List (Fin 4096), (∀ r, r ∈ l)
      ∧ Host.argReduceFiber x (iotaInDim S4096x256 32 0) h (ix1 j) = l.map fun r => (x (ix2 r j), BitVec.ofNat 32 r.val) := by
  have hcol (i : S4096x256.Idx) : h.drop i = ix1 j ↔ i = ix2 (i 0) j := by
    have hd : (h.drop i 0 : Nat) = i 1 := h.drop_apply_val_of_eq i 0 1
    constructor
    · intro e
      have e1 : (i 1 : Nat) = j.val := hd.symm.trans (congrArg (fun k : S256.Idx => (k 0).val) e)
      funext a
      match a with
      | ⟨0, _⟩ => rfl
      | ⟨1, _⟩ => exact Fin.ext e1
    · intro e
      funext a
      match a with
      | ⟨0, _⟩ => exact Fin.ext (hd.trans (congrArg (fun k : S4096x256.Idx => (k 1).val) e))
  refine ⟨((List.finRange S4096x256.numel).filter fun n => h.drop (S4096x256.rowMajor.symm n) = ix1 j).map
    fun n => (S4096x256.rowMajor.symm n) 0, fun r => ?_, ?_⟩
  · refine List.mem_map.mpr ⟨S4096x256.rowMajor (ix2 r j), List.mem_filter.mpr ⟨List.mem_finRange _, ?_⟩, ?_⟩
    · rw [Equiv.symm_apply_apply]; exact decide_eq_true ((hcol _).mpr rfl)
    · rw [Equiv.symm_apply_apply]
  · unfold Host.argReduceFiber
    refine Eq.trans (List.map_congr_left fun n hn => ?_) List.map_map.symm
    have e := (hcol _).mp (of_decide_eq_true (List.mem_filter.mp hn).2)
    exact Prod.ext (congrArg x e) rfl

/-- A matrix's column's maximum, on the host. -/
theorem max_col (x : FVec Ideal S4096x256 .f32) (j : Fin 256) (A : Fin 4096) (h : First (fun i => x (ix2 i j)) A) :
    Host.reduce FloatOps.maximumf x (constant S_ .f32 0xFF800000#32) reducesTo_S4096x256_S256_d0 h_S_ (ix1 j) = x (ix2 A j) := by
  have hr : S4096x256.Reduces [0] S256 := by decide
  refine (Host.reduce_eq_fold_single _ x _ reducesTo_S4096x256_S256_d0 hr h_S_ (ix1 j)).trans (Eq.trans ?_ h.fold_max)
  show (Finset.univ : Finset (Fin 4096)).fold max (FloatOps.ofBits (F := Ideal) .f32 0xFF800000#32 : EReal) _ = _
  rw [neg_inf]
  refine congrArg (fun f => (Finset.univ : Finset (Fin 4096)).fold max (⊥ : EReal) f) (funext fun r => congrArg x ?_)
  funext c
  match c with
  | ⟨0, _⟩ => rfl
  | ⟨1, _⟩ => rfl

/-- The first row of a column that holds its maximum, on the host. -/
theorem arg_col (x : FVec Ideal S4096x256 .f32) (j : Fin 256) (A : Fin 4096) (h : First (fun i => x (ix2 i j)) A) :
    (Host.argReduce reducer_argmax_f32_i32 x (iotaInDim S4096x256 32 0) (constant S_ .f32 0xFF800000#32)
      (constantI S_ 32 0#32) reducesTo_S4096x256_S256_d0 h_S_ (ix1 j)).2 = BitVec.ofNat 32 A.val := by
  obtain ⟨l, hl, e⟩ := fiber_eq x reducesTo_S4096x256_S256_d0 j
  rw [Ideal.argReduce_eq_reduce2, Host.reduce2_eq_foldl_fiber, e, List.foldl_map]
  have hs := h.search (by norm_num) l hl
  refine congrArg Prod.snd (Eq.trans ?_ hs)
  have hf : (reducer_argmax_f32_i32 (F := Ideal)) = argStep := funext fun p => funext fun q => reducer_eq p q
  rw [hf]
  refine congrArg (fun z : EReal => l.foldl (fun p r => argStep p (x (ix2 r j), BitVec.ofNat 32 r.val)) (z, 0#32)) neg_inf

/-- Both rows of the reference's result. -/
theorem ref_rows (x : FVec Ideal S4096x256 .f32) (j : Fin 256) (A : Fin 4096) (h : First (fun i => x (ix2 i j)) A) :
    refOut x (ix2 (0 : Fin 2) j) = x (ix2 A j) ∧ refOut x (ix2 (1 : Fin 2) j) = ((A.val : ℝ) : EReal) := by
  have hb (y : FVec Ideal S256 .f32) : broadcastInDim S1x256 ![1] bcast_S256_S1x256_1 y (ix2 (0 : Fin 1) j) = y (ix1 j) :=
    broadcastInDim_apply _ _ y _ _ fun a => by
      match a with
      | ⟨0, _⟩ => rfl
  have hn : ∀ k : S1x256.Idx, (k 1).val = j.val → k = ix2 (0 : Fin 1) j := fun k hk => by
    funext a
    match a with
    | ⟨0, _⟩ => exact Fin.ext (by have : (k 0).val < 1 := (k 0).isLt; show (k 0).val = 0; omega)
    | ⟨1, _⟩ => exact Fin.ext hk
  constructor
  · unfold refOut
    rw [concatenate_apply, concatenateAt_cons]
    refine (dif_pos (show (0 : ℕ) < 1 by decide)).trans ?_
    exact (congrArg _ (hn _ rfl)).trans ((hb _).trans (max_col x j A h))
  · unfold refOut
    rw [concatenate_apply, concatenateAt_cons]
    refine (dif_neg (show ¬ (1 : ℕ) < 1 by decide)).trans ?_
    rw [concatenateAt_singleton]
    refine (congrArg _ (hn _ rfl)).trans ((hb _).trans ?_)
    show (((Host.argReduce reducer_argmax_f32_i32 x (iotaInDim S4096x256 32 0) (constant S_ .f32 0xFF800000#32)
      (constantI S_ 32 0#32) reducesTo_S4096x256_S256_d0 h_S_ (ix1 j)).2.toInt : ℝ) : EReal) = _
    rw [arg_col x j A h, BitVec.toInt_eq_toNat_of_lt (by rw [word_val (by norm_num)]; omega), word_val (by norm_num)]
    simp

end Cert.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.KernelValue
public import proofs.«01_k».proof.Proof.ReferenceValue
public import Idealize.ShloMosaic.Lib.Claim
public import Idealize.ShloMosaic.Adequacy
public import Idealize.ShloMosaic.Init

@[expose] public section

noncomputable section

namespace Cert.Proof

open Idealize.ShloMosaic hiding ix1 ix2
open Idealize.SL.Sem
open Idealize.ShloMosaic.ValueIdx (ix1 ix2)
open Cert.Exchange (run_main final_out Ends outAt xin column column_place place out_rows exists_first First)
open Cert.Whole (refOut ref_rows run_reference)

/-- The kernel as printed and the idealized kernel have the same text, so the same function, -/
theorem body_eq : Cert.Kernel.cc0_body (F := Bits) = Cert.KernelIdeal.cc0_body (F := Bits) := rfl
/-- the same table of kernel functions, -/
theorem defs₀_eq : Cert.Kernel.defs₀ (F := Bits) = Cert.KernelIdeal.defs₀ (F := Bits) := by
  unfold Cert.Kernel.defs₀ Cert.KernelIdeal.defs₀
  congr 1
  funext l x
  match l, x with
  | 0, (t, s) => rfl
/-- and the same body table. -/
theorem defs_eq : Cert.Kernel.defs (F := Bits) = Cert.KernelIdeal.defs (F := Bits) :=
  congrArg (Pipeline.defs Cert.KernelIdeal.pcfgs) defs₀_eq

/-- The kernel as printed ends, its argument as it was, every counter at zero. -/
theorem frame_kernel : Cert.quiescent_Kernel := fun m ρ _ => by
  rw [defs_eq]
  exact (θ_run (Cert.KernelIdeal.defs (F := Bits)) _ _).mono (fun _ h => ⟨fun c => (h.1 c).2, h.2⟩) (run_main (F := Bits) m ρ)

/-- So does the idealized kernel. -/
theorem frame_ideal : Cert.quiescent_KernelIdeal := fun m ρ _ =>
  (θ_run (Cert.KernelIdeal.defs (F := Ideal)) _ _).mono (fun _ h => ⟨fun c => (h.1 c).2, h.2⟩) (run_main (F := Ideal) m ρ)

/-- So does the reference, which declares no semaphore. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩) (run_reference m g)

/-- Where every device holds its block of rows of `X`, a column put together from the blocks is the column of `X`. -/
theorem column_eq (m : (ℓ : Loc Cert.KernelIdeal.nD Cert.KernelIdeal.τ Cert.KernelIdeal.sig) → Buf (Elt Ideal) ℓ)
    (X : FVec Ideal Cert.ReferenceIdeal.S4096x256 .f32)
    (h : ∀ c : Dev Cert.KernelIdeal.nD, xin m c = Layout.block ⟨2, ![256, 256]⟩ ⟨2, ![4096, 256]⟩ 0 16 c X) (j : Fin 256) :
    column m j = fun i => X (ix2 i j) := by
  funext i
  unfold column
  rw [h]
  refine (Layout.block_apply _ _ _ _).trans (congrArg X ?_)
  funext a
  match a with
  | ⟨0, _⟩ => exact Fin.ext (Nat.div_add_mod' i.val 256)
  | ⟨1, _⟩ => rfl

/-- There every device's result is the reference's of `X`. -/
theorem out_eq (m : (ℓ : Loc Cert.KernelIdeal.nD Cert.KernelIdeal.τ Cert.KernelIdeal.sig) → Buf (Elt Ideal) ℓ)
    (X : FVec Ideal Cert.ReferenceIdeal.S4096x256 .f32)
    (h : ∀ c : Dev Cert.KernelIdeal.nD, xin m c = Layout.block ⟨2, ![256, 256]⟩ ⟨2, ![4096, 256]⟩ 0 16 c X)
    (c : Dev Cert.KernelIdeal.nD) : outAt m c = refOut X := by
  funext i
  obtain ⟨A, hA⟩ := exists_first (by norm_num) (column m (i 1))
  have hX : First (fun k => X (ix2 k (i 1))) A := column_eq m X h (i 1) ▸ hA
  have hk := out_rows m c (i 1) A hA
  have hr := ref_rows X (i 1) A hX
  have hv : column m (i 1) A = X (ix2 A (i 1)) := congrFun (column_eq m X h (i 1)) A
  have hi (r : Fin 2) (e : i 0 = r) : i = ix2 r (i 1) := by
    funext a
    match a with
    | ⟨0, _⟩ => exact e
    | ⟨1, _⟩ => rfl
  have hlt : (i 0).val < 2 := (i 0).isLt
  by_cases h0 : (i 0).val = 0
  · have e := hi 0 (Fin.ext h0)
    exact (congrArg (outAt m c) e).trans ((hk.1.trans (hv.trans hr.1.symm)).trans (congrArg (refOut X) e).symm)
  · have e := hi 1 (Fin.ext (show (i 0).val = 1 by omega))
    exact (congrArg (outAt m c) e).trans ((hk.2.trans hr.2.symm).trans (congrArg (refOut X) e).symm)

/-- Every device's result is the reference's, of the matrix whose blocks of rows the devices hold. -/
theorem algebraic : Cert.algebraic_KernelIdeal_ReferenceIdeal := fun m g m' g' _ hagree =>
  ⟨refOut (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun _ h c => ⟨(h.1 c).1.trans ((final_out m g c).trans (out_eq m _ hagree c)), (h.1 c).2⟩) (run_main (F := Ideal) m g),
    (θ_run (Cert.ReferenceIdeal.defs (F := Ideal)) _ _).mono (fun _ h => h 0) (run_reference m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
